-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6_2)) (v1 : (c : Dev Cert.KernelIdeal.nD) → Buf (Elt Ideal) ((c.tc : Thread Cert.KernelIdeal.nD Cert.KernelIdeal.τ).loc Cert.KernelIdeal.main_v6_0)) (v2 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_2) = v0 c
          ∧ r.2.mem ((c.tc : Thread Cert.KernelIdeal.nD Cert.KernelIdeal.τ).loc Cert.KernelIdeal.main_v6_0) = v1 c
          ∧ r.2.mem ((c.tc : Thread Cert.KernelIdeal.nD Cert.KernelIdeal.τ).loc Cert.KernelIdeal.main_v6_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7_0) = v0 c
          ∧ r.2.mem ((c.tc : Thread Cert.ReferenceIdeal.nD Cert.ReferenceIdeal.τ).loc Cert.ReferenceIdeal.main_v7_1) = v1 c
          ∧ r.2.mem ((c.tc : Thread Cert.ReferenceIdeal.nD Cert.ReferenceIdeal.τ).loc Cert.ReferenceIdeal.main_v7_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x3584 : Shape := ⟨2, ![128, 3584]⟩
abbrev S24x160x128 : Shape := ⟨3, ![24, 160, 128]⟩
abbrev S3584 : Shape := ⟨1, ![3584]⟩
abbrev S14336 : Shape := ⟨1, ![14336]⟩
abbrev S3840x3584 : Shape := ⟨2, ![3840, 3584]⟩
abbrev S3584x14336 : Shape := ⟨2, ![3584, 14336]⟩
abbrev S14336x3584 : Shape := ⟨2, ![14336, 3584]⟩
abbrev S3840x128 : Shape := ⟨2, ![3840, 128]⟩
abbrev S1x3584 : Shape := ⟨2, ![1, 3584]⟩
abbrev S1x14336 : Shape := ⟨2, ![1, 14336]⟩
abbrev S128x14336 : Shape := ⟨2, ![128, 14336]⟩
abbrev S1x512 : Shape := ⟨2, ![1, 512]⟩
abbrev S3840x512 : Shape := ⟨2, ![3840, 512]⟩
abbrev S3584x512 : Shape := ⟨2, ![3584, 512]⟩
abbrev S512x3584 : Shape := ⟨2, ![512, 3584]⟩
abbrev S128x512 : Shape := ⟨2, ![128, 512]⟩
abbrev S128x3840 : Shape := ⟨2, ![128, 3840]⟩
abbrev S128 : Shape := ⟨1, ![128]⟩
abbrev S128x1 : Shape := ⟨2, ![128, 1]⟩

abbrev nBuf : Space → Nat
  | .hbm => 20
  | .vmem => 25
  | .smem => 0
  | _ => 0

abbrev bufTy : (tb : Table) → Fin (tcTables nBuf tb) → BufTy
  | .hbm, ⟨0, _⟩ => ⟨S128x3584, .bf16⟩
  | .hbm, ⟨1, _⟩ => ⟨S24x160x128, .bf16⟩
  | .hbm, ⟨2, _⟩ => ⟨S3584, .f32⟩
  | .hbm, ⟨3, _⟩ => ⟨S3584, .f32⟩
  | .hbm, ⟨4, _⟩ => ⟨S14336, .f32⟩
  | .hbm, ⟨5, _⟩ => ⟨S14336, .f32⟩
  | .hbm, ⟨6, _⟩ => ⟨S3584, .f32⟩
  | .hbm, ⟨7, _⟩ => ⟨S3840x3584, .fp8e4m3⟩
  | .hbm, ⟨8, _⟩ => ⟨S3584x14336, .fp8e4m3⟩
  | .hbm, ⟨9, _⟩ => ⟨S3584x14336, .fp8e4m3⟩
  | .hbm, ⟨10, _⟩ => ⟨S14336x3584, .fp8e4m3⟩
  | .hbm, ⟨11, _⟩ => ⟨S3840x128, .bf16⟩
  | .hbm, ⟨12, _⟩ => ⟨S1x3584, .f32⟩
  | .hbm, ⟨13, _⟩ => ⟨S1x3584, .f32⟩
  | .hbm, ⟨14, _⟩ => ⟨S1x14336, .f32⟩
  | .hbm, ⟨15, _⟩ => ⟨S1x14336, .f32⟩
  | .hbm, ⟨16, _⟩ => ⟨S1x3584, .f32⟩
  | .hbm, ⟨17, _⟩ => ⟨S128x3584, .bf16⟩
  | .hbm, ⟨18, _⟩ => ⟨S128x14336, .bf16⟩
  | .hbm, ⟨19, _⟩ => ⟨S128x3584, .bf16⟩
  | .local _ .vmem, ⟨0, _⟩ => ⟨S128x3584, .bf16⟩
  | .local _ .vmem, ⟨1, _⟩ => ⟨S3840x128, .bf16⟩
  | .local _ .vmem, ⟨2, _⟩ => ⟨S1x3584, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x3584, .f32⟩
  | .local _ .vmem, ⟨10, _⟩ => ⟨S3840x512, .fp8e4m3⟩
  | .local _ .vmem, ⟨11, _⟩ => ⟨S3840x512, .fp8e4m3⟩
  | .local _ .vmem, ⟨12, _⟩ => ⟨S3584x512, .fp8e4m3⟩
  | .local _ .vmem, ⟨13, _⟩ => ⟨S3584x512, .fp8e4m3⟩
  | .local _ .vmem, ⟨14, _⟩ => ⟨S3584x512, .fp8e4m3⟩
  | .local _ .vmem, ⟨15, _⟩ => ⟨S3584x512, .fp8e4m3⟩
  | .local _ .vmem, ⟨16, _⟩ => ⟨S512x3584, .fp8e4m3⟩
  | .local _ .vmem, ⟨17, _⟩ => ⟨S512x3584, .fp8e4m3⟩
  | .local _ .vmem, ⟨18, _⟩ => ⟨S128x3584, .bf16⟩
  | .local _ .vmem, ⟨19, _⟩ => ⟨S128x512, .bf16⟩
  | .local _ .vmem, ⟨20, _⟩ => ⟨S128x512, .bf16⟩
  | .local _ .vmem, ⟨21, _⟩ => ⟨S128x3584, .bf16⟩
  | .local _ .vmem, ⟨22, _⟩ => ⟨S128x3840, .bf16⟩
  | .local _ .vmem, ⟨23, _⟩ => ⟨S128x3584, .bf16⟩
  | .local _ .vmem, ⟨24, _⟩ => ⟨S128x3584, .f32⟩
  | _, _ => ⟨S128x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem12_1 : DmaSem sig := 20
abbrev cc0_sem13_0 : DmaSem sig := 21

abbrev nD : Nat := 1
abbrev τ : Topo := Topo.v7x

variable {F : FTy → Type} [FloatOps F]

abbrev grid0 : Pipeline.Grid := ⟨1, ![35], ![false]⟩

def k0_cond2 (i : grid0.Coords) : BitVec 1 :=
  let arg0 : BitVec 32 := BitVec.ofNat 32 (i 0).val
  let c7_i32 : BitVec 32 := 7#32
  let v3 : BitVec 1 := Scalar.cmpi .slt arg0 c7_i32
  let v4 : BitVec 32 := Scalar.extui v3
  let c0_i32_1 : BitVec 32 := 0#32
  let v5 : BitVec 1 := Scalar.cmpi .ne v4 c0_i32_1
  v5

def k0_mult1 (i : grid0.Coords) : BitVec 32 :=
  let arg0 : BitVec 32 := BitVec.ofNat 32 (i 0).val
  let c512_i32 : BitVec 32 := 512#32
  let v15 : BitVec 32 := Scalar.muli arg0 c512_i32
  v15
def k0_off1 (i : grid0.Coords) : Fin 2 → Nat :=
  let c0_11 : Index := 0#32
  let arg0 : BitVec 32 := BitVec.ofNat 32 (i 0).val
  let c512_i32 : BitVec 32 := 512#32
  let v15 : BitVec 32 := Scalar.muli arg0 c512_i32
  let v16 : BitVec 32 := v15
  let v24 : Index := Scalar.indexCast v16
  ![0, v24.toNat]
def k0_cond4 (i : grid0.Coords) : BitVec 1 :=
  let arg0 : BitVec 32 := BitVec.ofNat 32 (i 0).val
  let c7_i32_3 : BitVec 32 := 7#32
  let v9 : BitVec 1 := Scalar.cmpi .sge arg0 c7_i32_3
  let v10 : BitVec 32 := Scalar.extui v9
  let c0_i32_4 : BitVec 32 := 0#32
  let v11 : BitVec 1 := Scalar.cmpi .ne v10 c0_i32_4
  v11

def k0_cond5 (i : grid0.Coords) : BitVec 1 :=
  let arg0 : BitVec 32 := BitVec.ofNat 32 (i 0).val
  let c34_i32 : BitVec 32 := 34#32
  let v12 : BitVec 1 := Scalar.cmpi .eq arg0 c34_i32
  let v13 : BitVec 32 := Scalar.extui v12
  let c0_i32_5 : BitVec 32 := 0#32
  let v14 : BitVec 1 := Scalar.cmpi .ne v13 c0_i32_5
  v14

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c6_i32 : BitVec 32 := 6#32
  let v0 : BitVec 32 := Scalar.minsi arg0 c6_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c7_i32 : BitVec 32 := 7#32
  let v0 : BitVec 32 := Scalar.subi arg0 c7_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_5 (i : grid0.Coords) : Fin 2 → Nat :=
  let arg0 : BitVec 32 := BitVec.ofNat 32 (i 0).val
  let c7_i32 : BitVec 32 := 7#32
  let v0 : BitVec 32 := Scalar.subi arg0 c7_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c6_i32 : BitVec 32 := 6#32
  let v0 : BitVec 32 := Scalar.minsi arg0 c6_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let c7_i32 : BitVec 32 := 7#32
  let v0 : BitVec 32 := Scalar.subi arg0 c7_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_9 (i : grid0.Coords) : Fin 2 → Nat :=
  let arg0 : BitVec 32 := BitVec.ofNat 32 (i 0).val
  let c7_i32 : BitVec 32 := 7#32
  let v0 : BitVec 32 := Scalar.subi arg0 c7_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_10 (i : grid0.Coords) : Fin 2 → Nat :=
  let arg0 : BitVec 32 := BitVec.ofNat 32 (i 0).val
  let c7_i32 : BitVec 32 := 7#32
  let v0 : BitVec 32 := Scalar.subi arg0 c7_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c7_i32 : BitVec 32 := 7#32
  let v0 : BitVec 32 := Scalar.subi arg0 c7_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3840x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3584 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x3584 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S3840x512 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3584x512 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S3584x512 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x3584 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S128x3584 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S128x3584 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S128x3584 : Shape := ⟨2, ![128, 3584]⟩
abbrev S24x160x128 : Shape := ⟨3, ![24, 160, 128]⟩
abbrev S3584 : Shape := ⟨1, ![3584]⟩
abbrev S14336 : Shape := ⟨1, ![14336]⟩
abbrev S3840x3584 : Shape := ⟨2, ![3840, 3584]⟩
abbrev S3584x14336 : Shape := ⟨2, ![3584, 14336]⟩
abbrev S14336x3584 : Shape := ⟨2, ![14336, 3584]⟩
abbrev S128x24x160 : Shape := ⟨3, ![128, 24, 160]⟩
abbrev S128x3840 : Shape := ⟨2, ![128, 3840]⟩
abbrev S1x3584 : Shape := ⟨2, ![1, 3584]⟩
abbrev S1x14336 : Shape := ⟨2, ![1, 14336]⟩
abbrev S128x14336 : Shape := ⟨2, ![128, 14336]⟩
abbrev S128 : Shape := ⟨1, ![128]⟩
abbrev S128x1 : Shape := ⟨2, ![128, 1]⟩

abbrev nBuf : Space → Nat
  | .hbm => 21
  | .vmem => 14
  | .smem => 0
  | _ => 0

abbrev bufTy : (tb : Table) → Fin (tcTables nBuf tb) → BufTy
  | .hbm, ⟨0, _⟩ => ⟨S128x3584, .bf16⟩
  | .hbm, ⟨1, _⟩ => ⟨S24x160x128, .bf16⟩
  | .hbm, ⟨2, _⟩ => ⟨S3584, .f32⟩
  | .hbm, ⟨3, _⟩ => ⟨S3584, .f32⟩
  | .hbm, ⟨4, _⟩ => ⟨S14336, .f32⟩
  | .hbm, ⟨5, _⟩ => ⟨S14336, .f32⟩
  | .hbm, ⟨6, _⟩ => ⟨S3584, .f32⟩
  | .hbm, ⟨7, _⟩ => ⟨S3840x3584, .fp8e4m3⟩
  | .hbm, ⟨8, _⟩ => ⟨S3584x14336, .fp8e4m3⟩
  | .hbm, ⟨9, _⟩ => ⟨S3584x14336, .fp8e4m3⟩
  | .hbm, ⟨10, _⟩ => ⟨S14336x3584, .fp8e4m3⟩
  | .hbm, ⟨11, _⟩ => ⟨S128x24x160, .bf16⟩
  | .hbm, ⟨12, _⟩ => ⟨S128x3840, .bf16⟩
  | .hbm, ⟨13, _⟩ => ⟨S1x3584, .f32⟩
  | .hbm, ⟨14, _⟩ => ⟨S1x3584, .f32⟩
  | .hbm, ⟨15, _⟩ => ⟨S1x14336, .f32⟩
  | .hbm, ⟨16, _⟩ => ⟨S1x14336, .f32⟩
  | .hbm, ⟨17, _⟩ => ⟨S1x3584, .f32⟩
  | .hbm, ⟨18, _⟩ => ⟨S128x3584, .bf16⟩
  | .hbm, ⟨19, _⟩ => ⟨S128x3584, .bf16⟩
  | .hbm, ⟨20, _⟩ => ⟨S128x14336, .bf16⟩
  | .local _ .vmem, ⟨0, _⟩ => ⟨S128x3584, .bf16⟩
  | .local _ .vmem, ⟨1, _⟩ => ⟨S128x3840, .bf16⟩
  | .local _ .vmem, ⟨2, _⟩ => ⟨S1x3584, .f32⟩
  | .local _ .vmem, ⟨3, _⟩ => ⟨S1x3584, .f32⟩
  | .local _ .vmem, ⟨4, _⟩ => ⟨S1x14336, .f32⟩
  | .local _ .vmem, ⟨5, _⟩ => ⟨S1x14336, .f32⟩
  | .local _ .vmem, ⟨6, _⟩ => ⟨S1x3584, .f32⟩
  | .local _ .vmem, ⟨7, _⟩ => ⟨S3840x3584, .fp8e4m3⟩
  | .local _ .vmem, ⟨8, _⟩ => ⟨S3584x14336, .fp8e4m3⟩
  | .local _ .vmem, ⟨9, _⟩ => ⟨S3584x14336, .fp8e4m3⟩
  | .local _ .vmem, ⟨10, _⟩ => ⟨S14336x3584, .fp8e4m3⟩
  | .local _ .vmem, ⟨11, _⟩ => ⟨S128x3584, .bf16⟩
  | .local _ .vmem, ⟨12, _⟩ => ⟨S128x3584, .bf16⟩
  | .local _ .vmem, ⟨13, _⟩ => ⟨S128x14336, .bf16⟩
  | _, _ => ⟨S128x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v7_2 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S128x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x3840 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x3584 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x14336 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x14336 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x3584 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3840x3584 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3584x14336 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3584x14336 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S14336x3584 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S128x3584 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S128x3584 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S128x14336 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.KBody.lean ====
/- The body of the kernel at one grid point: what each branch leaves in the outputs' blocks and in the three
   buffers the kernel keeps between points. The grid has 35 points: at points 0 … 6 the body computes a block of 512
   columns of the residual sum, at points 7 … 34 a block of 512 columns of the activation and its part of the down
   product. -/
module

public import proofs.«01_k».proof.Proof.Gen.Kernel.Frame
public import proofs.«01_k».proof.Proof.Gen.Kernel.Skeleton
public import Idealize.ShloMosaic.Lib.VecWindow

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen

variable {F : FTy → Type} [FloatOps F]

local notation "𝕄" => MT nD τ sig Unit (Elt F) ℕ (UR sig nD τ) ℕ

/-- Point 0: the transposed attention block is put in the first kept buffer, and the first block of the residual sum computed from it. -/
theorem body_first (c : Dev nD) (E : Set ℕ) (i : grid0.Coords) (h1 : (Scalar.cmpi .ne (Scalar.extui (Scalar.cmpi .eq (BitVec.ofNat 32 (i 0).val) 0#32) : BitVec 32) 0#32 : BitVec 1) = 1#1) (h2 : k0_cond2 i = 1#1) (h3 : ¬ (Scalar.cmpi .ne (Scalar.extui (Scalar.cmpi .eq (BitVec.ofNat 32 (i 0).val) 6#32) : BitVec 32) 0#32 : BitVec 1) = 1#1) (h4 : ¬ k0_cond4 i = 1#1) (h5 : ¬ k0_cond5 i = 1#1) (arg1 : Memref sig .tc .vmem S128x3584 .bf16) (harg1 : arg1.IsWhole) (arg2 : Memref sig .tc .vmem S3840x128 .bf16) (harg2 : arg2.IsWhole) (arg3 : Memref sig .tc .vmem S1x3584 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x3584 .f32) (harg7 : arg7.IsWhole) (arg8 : Memref sig .tc .vmem S3840x512 .fp8e4m3) (harg8 : arg8.IsWhole) (arg9 : Memref sig .tc .vmem S3584x512 .fp8e4m3) (harg9 : arg9.IsWhole) (arg10 : Memref sig .tc .vmem S3584x512 .fp8e4m3) (harg10 : arg10.IsWhole) (arg11 : Memref sig .tc .vmem S512x3584 .fp8e4m3) (harg11 : arg11.IsWhole) (arg12 : Memref sig .tc .vmem S128x3584 .bf16) (harg12 : arg12.IsWhole) (arg13 : Memref sig .tc .vmem S128x512 .bf16) (harg13 : arg13.IsWhole) (arg14 : Memref sig .tc .vmem S128x3584 .bf16) (harg14 : arg14.IsWhole) (arg15 : Memref sig .tc .vmem S128x3840 .bf16) (harg15 : arg15.IsWhole) (arg16 : Memref sig .tc .vmem S128x3584 .bf16) (harg16 : arg16.IsWhole) (arg17 : Memref sig .tc .vmem S128x3584 .f32) (harg17 : arg17.IsWhole)
    (x1 : Vec F S128x3584 .bf16) (x2 : Vec F S3840x128 .bf16) (x3 : Vec F S1x3584 .f32) (x4 : Vec F S1x512 .f32) (x5 : Vec F S1x512 .f32) (x6 : Vec F S1x512 .f32) (x7 : Vec F S1x3584 .f32) (x8 : Vec F S3840x512 .fp8e4m3) (x9 : Vec F S3584x512 .fp8e4m3) (x10 : Vec F S3584x512 .fp8e4m3) (x11 : Vec F S512x3584 .fp8e4m3) (x12 : Vec F S128x3584 .bf16) (x13 : Vec F S128x512 .bf16) (x14 : Vec F S128x3584 .bf16) (x15 : Vec F S128x3840 .bf16) (x16 : Vec F S128x3584 .bf16) (x17 : Vec F S128x3584 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (VecWindow.put x12 (k0_off1 i) S128x512.size (k0_pay2 (k0_pay1 x2) x8 x4 (VecWindow.window x1 (k0_off1 i) S128x512.size (k0_off1_inb i h2)))) ∗ owns (c : Thread nD τ) arg13 fullShare x13 ∗ owns (c : Thread nD τ) arg14 fullShare x14 ∗ owns (c : Thread nD τ) arg15 fullShare (k0_pay1 x2) ∗ owns (c : Thread nD τ) arg16 fullShare x16 ∗ owns (c : Thread nD τ) arg17 fullShare x17) -∗ K ⟨⟩))
      ⊢ wp frame (wpE (defs₀ (F := F)) Variants.none c none) E (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_mlp_eq_skeleton]; unfold cc0_mlp_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  subst hf1 hf2 hf3 hf4 hf5 hf6 hf7 hf8 hf9 hf10 hf11 hf12 hf13 hf14 hf15 hf16 hf17
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    sl_unfold_words
    refine (View.read_writes_cons_put _ _ _ _ _ rfl).trans ?_
    simp (proj := false) only [View.readAt_full, View.readCov_full, View.writes_nil]
    rfl
  isplitl [H13]
  · iexists f13; isplitr; · ipureintro; rfl
    iexact H13
  isplitl [H14]
  · iexists f14; isplitr; · ipureintro; rfl
    iexact H14
  isplitl [H15]
  · iexists _; isplitr
    swap; · iexact H15
    ipureintro
    sl_unfold_words
    refine (View.read_writes_full _ _ _ _ _).trans ?_
    simp (proj := false) only [View.readAt_full, View.readCov_full, View.writes_nil]
  isplitl [H16]
  · iexists f16; isplitr; · ipureintro; rfl
    iexact H16
  iexists f17; isplitr; · ipureintro; rfl
  iexact H17

/-- Points 1 … 5: a further block of the residual sum. -/
theorem body_mid (c : Dev nD) (E : Set ℕ) (i : grid0.Coords) (h1 : ¬ (Scalar.cmpi .ne (Scalar.extui (Scalar.cmpi .eq (BitVec.ofNat 32 (i 0).val) 0#32) : BitVec 32) 0#32 : BitVec 1) = 1#1) (h2 : k0_cond2 i = 1#1) (h3 : ¬ (Scalar.cmpi .ne (Scalar.extui (Scalar.cmpi .eq (BitVec.ofNat 32 (i 0).val) 6#32) : BitVec 32) 0#32 : BitVec 1) = 1#1) (h4 : ¬ k0_cond4 i = 1#1) (h5 : ¬ k0_cond5 i = 1#1) (arg1 : Memref sig .tc .vmem S128x3584 .bf16) (harg1 : arg1.IsWhole) (arg2 : Memref sig .tc .vmem S3840x128 .bf16) (harg2 : arg2.IsWhole) (arg3 : Memref sig .tc .vmem S1x3584 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x3584 .f32) (harg7 : arg7.IsWhole) (arg8 : Memref sig .tc .vmem S3840x512 .fp8e4m3) (harg8 : arg8.IsWhole) (arg9 : Memref sig .tc .vmem S3584x512 .fp8e4m3) (harg9 : arg9.IsWhole) (arg10 : Memref sig .tc .vmem S3584x512 .fp8e4m3) (harg10 : arg10.IsWhole) (arg11 : Memref sig .tc .vmem S512x3584 .fp8e4m3) (harg11 : arg11.IsWhole) (arg12 : Memref sig .tc .vmem S128x3584 .bf16) (harg12 : arg12.IsWhole) (arg13 : Memref sig .tc .vmem S128x512 .bf16) (harg13 : arg13.IsWhole) (arg14 : Memref sig .tc .vmem S128x3584 .bf16) (harg14 : arg14.IsWhole) (arg15 : Memref sig .tc .vmem S128x3840 .bf16) (harg15 : arg15.IsWhole) (arg16 : Memref sig .tc .vmem S128x3584 .bf16) (harg16 : arg16.IsWhole) (arg17 : Memref sig .tc .vmem S128x3584 .f32) (harg17 : arg17.IsWhole)
    (x1 : Vec F S128x3584 .bf16) (x2 : Vec F S3840x128 .bf16) (x3 : Vec F S1x3584 .f32) (x4 : Vec F S1x512 .f32) (x5 : Vec F S1x512 .f32) (x6 : Vec F S1x512 .f32) (x7 : Vec F S1x3584 .f32) (x8 : Vec F S3840x512 .fp8e4m3) (x9 : Vec F S3584x512 .fp8e4m3) (x10 : Vec F S3584x512 .fp8e4m3) (x11 : Vec F S512x3584 .fp8e4m3) (x12 : Vec F S128x3584 .bf16) (x13 : Vec F S128x512 .bf16) (x14 : Vec F S128x3584 .bf16) (x15 : Vec F S128x3840 .bf16) (x16 : Vec F S128x3584 .bf16) (x17 : Vec F S128x3584 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (VecWindow.put x12 (k0_off1 i) S128x512.size (k0_pay2 x15 x8 x4 (VecWindow.window x1 (k0_off1 i) S128x512.size (k0_off1_inb i h2)))) ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17) -∗ K ⟨⟩))
      ⊢ wp frame (wpE (defs₀ (F := F)) Variants.none c none) E (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_mlp_eq_skeleton]; unfold cc0_mlp_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  subst hf1 hf2 hf3 hf4 hf5 hf6 hf7 hf8 hf9 hf10 hf11 hf12 hf13 hf14 hf15 hf16 hf17
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    sl_unfold_words
    refine (View.read_writes_cons_put _ _ _ _ _ rfl).trans ?_
    simp (proj := false) only [View.readAt_full, View.readCov_full, View.writes_nil]
    rfl
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  iexists f17; isplitr; · ipureintro; rfl
  iexact H17

/-- Point 6: the last block of the residual sum, then the normalised rows and the cleared sum of the down product. -/
theorem body_turn (c : Dev nD) (E : Set ℕ) (i : grid0.Coords) (h1 : ¬ (Scalar.cmpi .ne (Scalar.extui (Scalar.cmpi .eq (BitVec.ofNat 32 (i 0).val) 0#32) : BitVec 32) 0#32 : BitVec 1) = 1#1) (h2 : k0_cond2 i = 1#1) (h3 : (Scalar.cmpi .ne (Scalar.extui (Scalar.cmpi .eq (BitVec.ofNat 32 (i 0).val) 6#32) : BitVec 32) 0#32 : BitVec 1) = 1#1) (h4 : ¬ k0_cond4 i = 1#1) (h5 : ¬ k0_cond5 i = 1#1) (arg1 : Memref sig .tc .vmem S128x3584 .bf16) (harg1 : arg1.IsWhole) (arg2 : Memref sig .tc .vmem S3840x128 .bf16) (harg2 : arg2.IsWhole) (arg3 : Memref sig .tc .vmem S1x3584 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x3584 .f32) (harg7 : arg7.IsWhole) (arg8 : Memref sig .tc .vmem S3840x512 .fp8e4m3) (harg8 : arg8.IsWhole) (arg9 : Memref sig .tc .vmem S3584x512 .fp8e4m3) (harg9 : arg9.IsWhole) (arg10 : Memref sig .tc .vmem S3584x512 .fp8e4m3) (harg10 : arg10.IsWhole) (arg11 : Memref sig .tc .vmem S512x3584 .fp8e4m3) (harg11 : arg11.IsWhole) (arg12 : Memref sig .tc .vmem S128x3584 .bf16) (harg12 : arg12.IsWhole) (arg13 : Memref sig .tc .vmem S128x512 .bf16) (harg13 : arg13.IsWhole) (arg14 : Memref sig .tc .vmem S128x3584 .bf16) (harg14 : arg14.IsWhole) (arg15 : Memref sig .tc .vmem S128x3840 .bf16) (harg15 : arg15.IsWhole) (arg16 : Memref sig .tc .vmem S128x3584 .bf16) (harg16 : arg16.IsWhole) (arg17 : Memref sig .tc .vmem S128x3584 .f32) (harg17 : arg17.IsWhole)
    (x1 : Vec F S128x3584 .bf16) (x2 : Vec F S3840x128 .bf16) (x3 : Vec F S1x3584 .f32) (x4 : Vec F S1x512 .f32) (x5 : Vec F S1x512 .f32) (x6 : Vec F S1x512 .f32) (x7 : Vec F S1x3584 .f32) (x8 : Vec F S3840x512 .fp8e4m3) (x9 : Vec F S3584x512 .fp8e4m3) (x10 : Vec F S3584x512 .fp8e4m3) (x11 : Vec F S512x3584 .fp8e4m3) (x12 : Vec F S128x3584 .bf16) (x13 : Vec F S128x512 .bf16) (x14 : Vec F S128x3584 .bf16) (x15 : Vec F S128x3840 .bf16) (x16 : Vec F S128x3584 .bf16) (x17 : Vec F S128x3584 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (VecWindow.put x12 (k0_off1 i) S128x512.size (k0_pay2 x15 x8 x4 (VecWindow.window x1 (k0_off1 i) S128x512.size (k0_off1_inb i h2)))) ∗ owns (c : Thread nD τ) arg13 fullShare x13 ∗ owns (c : Thread nD τ) arg14 fullShare x14 ∗ owns (c : Thread nD τ) arg15 fullShare x15 ∗ owns (c : Thread nD τ) arg16 fullShare (k0_pay3 (VecWindow.put x12 (k0_off1 i) S128x512.size (k0_pay2 x15 x8 x4 (VecWindow.window x1 (k0_off1 i) S128x512.size (k0_off1_inb i h2)))) x3) ∗ owns (c : Thread nD τ) arg17 fullShare (k0_pay4 (F := F))) -∗ K ⟨⟩))
      ⊢ wp frame (wpE (defs₀ (F := F)) Variants.none c none) E (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_mlp_eq_skeleton]; unfold cc0_mlp_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  subst hf1 hf2 hf3 hf4 hf5 hf6 hf7 hf8 hf9 hf10 hf11 hf12 hf13 hf14 hf15 hf16 hf17
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    sl_unfold_words
    refine (View.read_writes_cons_put _ _ _ _ _ rfl).trans ?_
    simp (proj := false) only [View.readAt_full, View.readCov_full, View.writes_nil]
    rfl
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    sl_unfold_words
    refine (View.read_writes_full _ _ _ _ _).trans ?_
    simp (proj := false) only [View.readAt_full, View.readCov_full, View.writes_nil]
    exact congrArg (fun X => k0_pay3 X (View.read (Elt F) arg3.view f3)) (View.read_writes_cons_put _ _ _ _ _ rfl)
  iexists _; isplitr
  swap; · iexact H17
  ipureintro
  sl_unfold_words
  exact View.read_writes_full _ _ _ _ _

/-- Points 7 … 33: a block of the activation, and its part of the down product added to the sum. -/
theorem body_ff (c : Dev nD) (E : Set ℕ) (i : grid0.Coords) (h1 : ¬ (Scalar.cmpi .ne (Scalar.extui (Scalar.cmpi .eq (BitVec.ofNat 32 (i 0).val) 0#32) : BitVec 32) 0#32 : BitVec 1) = 1#1) (h2 : ¬ k0_cond2 i = 1#1) (h3 : ¬ (Scalar.cmpi .ne (Scalar.extui (Scalar.cmpi .eq (BitVec.ofNat 32 (i 0).val) 6#32) : BitVec 32) 0#32 : BitVec 1) = 1#1) (h4 : k0_cond4 i = 1#1) (h5 : ¬ k0_cond5 i = 1#1) (arg1 : Memref sig .tc .vmem S128x3584 .bf16) (harg1 : arg1.IsWhole) (arg2 : Memref sig .tc .vmem S3840x128 .bf16) (harg2 : arg2.IsWhole) (arg3 : Memref sig .tc .vmem S1x3584 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x3584 .f32) (harg7 : arg7.IsWhole) (arg8 : Memref sig .tc .vmem S3840x512 .fp8e4m3) (harg8 : arg8.IsWhole) (arg9 : Memref sig .tc .vmem S3584x512 .fp8e4m3) (harg9 : arg9.IsWhole) (arg10 : Memref sig .tc .vmem S3584x512 .fp8e4m3) (harg10 : arg10.IsWhole) (arg11 : Memref sig .tc .vmem S512x3584 .fp8e4m3) (harg11 : arg11.IsWhole) (arg12 : Memref sig .tc .vmem S128x3584 .bf16) (harg12 : arg12.IsWhole) (arg13 : Memref sig .tc .vmem S128x512 .bf16) (harg13 : arg13.IsWhole) (arg14 : Memref sig .tc .vmem S128x3584 .bf16) (harg14 : arg14.IsWhole) (arg15 : Memref sig .tc .vmem S128x3840 .bf16) (harg15 : arg15.IsWhole) (arg16 : Memref sig .tc .vmem S128x3584 .bf16) (harg16 : arg16.IsWhole) (arg17 : Memref sig .tc .vmem S128x3584 .f32) (harg17 : arg17.IsWhole)
    (x1 : Vec F S128x3584 .bf16) (x2 : Vec F S3840x128 .bf16) (x3 : Vec F S1x3584 .f32) (x4 : Vec F S1x512 .f32) (x5 : Vec F S1x512 .f32) (x6 : Vec F S1x512 .f32) (x7 : Vec F S1x3584 .f32) (x8 : Vec F S3840x512 .fp8e4m3) (x9 : Vec F S3584x512 .fp8e4m3) (x10 : Vec F S3584x512 .fp8e4m3) (x11 : Vec F S512x3584 .fp8e4m3) (x12 : Vec F S128x3584 .bf16) (x13 : Vec F S128x512 .bf16) (x14 : Vec F S128x3584 .bf16) (x15 : Vec F S128x3840 .bf16) (x16 : Vec F S128x3584 .bf16) (x17 : Vec F S128x3584 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (k0_pay5 x16 x9 x5 x16 x10 x6) ∗ owns (c : Thread nD τ) arg14 fullShare x14 ∗ owns (c : Thread nD τ) arg15 fullShare x15 ∗ owns (c : Thread nD τ) arg16 fullShare x16 ∗ owns (c : Thread nD τ) arg17 fullShare (k0_pay6 x16 x9 x5 x16 x10 x6 x17 x11)) -∗ K ⟨⟩))
      ⊢ wp frame (wpE (defs₀ (F := F)) Variants.none c none) E (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_mlp_eq_skeleton]; unfold cc0_mlp_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  subst hf1 hf2 hf3 hf4 hf5 hf6 hf7 hf8 hf9 hf10 hf11 hf12 hf13 hf14 hf15 hf16 hf17
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    sl_unfold_words
    refine (View.read_writes_full _ _ _ _ _).trans ?_
    simp (proj := false) only [View.readAt_full, View.readCov_full, View.writes_nil]
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  iexists _; isplitr
  swap; · iexact H17
  ipureintro
  sl_unfold_words
  refine (View.read_writes_full _ _ _ _ _).trans ?_
  simp (proj := false) only [View.readAt_full, View.readCov_full, View.writes_nil]

/-- Point 34: as before, and then the result from the residual sum and the whole down product. -/
theorem body_last (c : Dev nD) (E : Set ℕ) (i : grid0.Coords) (h1 : ¬ (Scalar.cmpi .ne (Scalar.extui (Scalar.cmpi .eq (BitVec.ofNat 32 (i 0).val) 0#32) : BitVec 32) 0#32 : BitVec 1) = 1#1) (h2 : ¬ k0_cond2 i = 1#1) (h3 : ¬ (Scalar.cmpi .ne (Scalar.extui (Scalar.cmpi .eq (BitVec.ofNat 32 (i 0).val) 6#32) : BitVec 32) 0#32 : BitVec 1) = 1#1) (h4 : k0_cond4 i = 1#1) (h5 : k0_cond5 i = 1#1) (arg1 : Memref sig .tc .vmem S128x3584 .bf16) (harg1 : arg1.IsWhole) (arg2 : Memref sig .tc .vmem S3840x128 .bf16) (harg2 : arg2.IsWhole) (arg3 : Memref sig .tc .vmem S1x3584 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x3584 .f32) (harg7 : arg7.IsWhole) (arg8 : Memref sig .tc .vmem S3840x512 .fp8e4m3) (harg8 : arg8.IsWhole) (arg9 : Memref sig .tc .vmem S3584x512 .fp8e4m3) (harg9 : arg9.IsWhole) (arg10 : Memref sig .tc .vmem S3584x512 .fp8e4m3) (harg10 : arg10.IsWhole) (arg11 : Memref sig .tc .vmem S512x3584 .fp8e4m3) (harg11 : arg11.IsWhole) (arg12 : Memref sig .tc .vmem S128x3584 .bf16) (harg12 : arg12.IsWhole) (arg13 : Memref sig .tc .vmem S128x512 .bf16) (harg13 : arg13.IsWhole) (arg14 : Memref sig .tc .vmem S128x3584 .bf16) (harg14 : arg14.IsWhole) (arg15 : Memref sig .tc .vmem S128x3840 .bf16) (harg15 : arg15.IsWhole) (arg16 : Memref sig .tc .vmem S128x3584 .bf16) (harg16 : arg16.IsWhole) (arg17 : Memref sig .tc .vmem S128x3584 .f32) (harg17 : arg17.IsWhole)
    (x1 : Vec F S128x3584 .bf16) (x2 : Vec F S3840x128 .bf16) (x3 : Vec F S1x3584 .f32) (x4 : Vec F S1x512 .f32) (x5 : Vec F S1x512 .f32) (x6 : Vec F S1x512 .f32) (x7 : Vec F S1x3584 .f32) (x8 : Vec F S3840x512 .fp8e4m3) (x9 : Vec F S3584x512 .fp8e4m3) (x10 : Vec F S3584x512 .fp8e4m3) (x11 : Vec F S512x3584 .fp8e4m3) (x12 : Vec F S128x3584 .bf16) (x13 : Vec F S128x512 .bf16) (x14 : Vec F S128x3584 .bf16) (x15 : Vec F S128x3840 .bf16) (x16 : Vec F S128x3584 .bf16) (x17 : Vec F S128x3584 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (k0_pay5 x16 x9 x5 x16 x10 x6) ∗ owns (c : Thread nD τ) arg14 fullShare (k0_pay7 x12 (k0_pay6 x16 x9 x5 x16 x10 x6 x17 x11) x7) ∗ owns (c : Thread nD τ) arg15 fullShare x15 ∗ owns (c : Thread nD τ) arg16 fullShare x16 ∗ owns (c : Thread nD τ) arg17 fullShare (k0_pay6 x16 x9 x5 x16 x10 x6 x17 x11)) -∗ K ⟨⟩))
      ⊢ wp frame (wpE (defs₀ (F := F)) Variants.none c none) E (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_mlp_eq_skeleton]; unfold cc0_mlp_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  subst hf1 hf2 hf3 hf4 hf5 hf6 hf7 hf8 hf9 hf10 hf11 hf12 hf13 hf14 hf15 hf16 hf17
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    sl_unfold_words
    refine (View.read_writes_full _ _ _ _ _).trans ?_
    simp (proj := false) only [View.readAt_full, View.readCov_full, View.writes_nil]
  isplitl [H14]
  · iexists _; isplitr
    swap; · iexact H14
    ipureintro
    sl_unfold_words
    refine (View.read_writes_full _ _ _ _ _).trans ?_
    simp (proj := false) only [View.readAt_full, View.readCov_full, View.writes_nil]
  isplitl [H15]
  · iexists f15; isplitr; · ipureintro; rfl
    iexact H15
  isplitl [H16]
  · iexists f16; isplitr; · ipureintro; rfl
    iexact H16
  iexists _; isplitr
  swap; · iexact H17
  ipureintro
  sl_unfold_words
  refine (View.read_writes_full _ _ _ _ _).trans ?_
  simp (proj := false) only [View.readAt_full, View.readCov_full, View.writes_nil]

end Cert.Kernel.Hand

end
-- ==== Proof.KInv.lean ====
/- What the kernel keeps from point to point: the blocks of the residual sum written so far, the transposed attention
   rows, the normalised rows, and the sum of the parts of the down product. -/
module

public import proofs.«01_k».proof.Proof.Gen.Kernel.Frame
public import proofs.«01_k».proof.Proof.Gen.Kernel.Skeleton
public import Idealize.ShloMosaic.Lib.VecWindow
public import Idealize.ShloMosaic.Lib.Pointwise.Index
public import Idealize.ShloMosaic.Lib.Pipeline.DatRel
public import proofs.«01_k».proof.Proof.KBody

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.Kernel.Gen

variable {F : FTy → Type} [FloatOps F]

local notation "𝕄" => MT nD τ sig Unit (Elt F) ℕ (UR sig nD τ) ℕ

variable (m : (ℓ : Loc nD τ sig) → Buf (Elt F) ℓ)

/-! ## The grid in plain numbers -/

/-- Point number `n` of the grid. -/
def pt (n : ℕ) (h : n < 35) : Fin cfg0.N := ⟨n, lt_of_lt_of_eq h N_0.symm⟩

theorem zero_lt : 0 < 35 := by decide
theorem six_lt : 6 < 35 := by decide
theorem last_lt : 34 < 35 := by decide

theorem lt_N (t : Fin cfg0.N) : t.val < 35 := lt_of_lt_of_eq t.isLt N_0

theorem cond1_iff : ∀ t : Fin cfg0.N, (Scalar.cmpi .ne (Scalar.extui (Scalar.cmpi .eq (BitVec.ofNat 32 (grid0.coords t 0).val) 0#32) : BitVec 32) 0#32 : BitVec 1) = 1#1 ↔ t.val = 0 := by decide +kernel
theorem cond2_iff : ∀ t : Fin cfg0.N, k0_cond2 (grid0.coords t) = 1#1 ↔ t.val < 7 := by decide +kernel
theorem cond3_iff : ∀ t : Fin cfg0.N, (Scalar.cmpi .ne (Scalar.extui (Scalar.cmpi .eq (BitVec.ofNat 32 (grid0.coords t 0).val) 6#32) : BitVec 32) 0#32 : BitVec 1) = 1#1 ↔ t.val = 6 := by decide +kernel
theorem cond4_iff : ∀ t : Fin cfg0.N, k0_cond4 (grid0.coords t) = 1#1 ↔ 7 ≤ t.val := by decide +kernel
theorem cond5_iff : ∀ t : Fin cfg0.N, k0_cond5 (grid0.coords t) = 1#1 ↔ t.val = 34 := by decide +kernel

/-- The columns of a point's block of the residual sum begin at 512 times its number. -/
theorem off1_eq : ∀ t : Fin cfg0.N, k0_off1 (grid0.coords t) = ![0, 512 * t.val] := by decide +kernel

/-! ## What is computed -/

/-- The attention rows, transposed. -/
def attT (c : Dev nD) : Vec F S128x3840 .bf16 := k0_pay1 (iblk m c 1 (pt 0 zero_lt))

/-- The block's columns of the kernel's first operand. -/
def xWin (c : Dev nD) (n : ℕ) (h : n < 7) : Vec F S128x512 .bf16 :=
  VecWindow.window (iblk m c 0 (pt n (by omega)) : Vec F S128x3584 .bf16) (k0_off1 (grid0.coords (pt n (by omega)))) S128x512.size
    (k0_off1_inb _ ((cond2_iff (pt n (by omega))).mpr h))

/-- Block `n` of the residual sum. -/
def hBlk (c : Dev nD) (n : ℕ) (h : n < 7) : Vec F S128x512 .bf16 :=
  k0_pay2 (attT m c) (iblk m c 7 (pt n (by omega))) (iblk m c 3 (pt n (by omega))) (xWin m c n h)

/-- The residual sum: its seven blocks side by side. -/
def hAll (c : Dev nD) : Vec F S128x3584 .bf16 := fun j =>
  hBlk m c ((j 1).val / 512) (by have h : (j 1).val < 3584 := (j 1).isLt; omega)
    (ix2 (j 0) ⟨(j 1).val % 512, Nat.mod_lt _ (by omega)⟩)

/-- The normalised rows. -/
def h2 (c : Dev nD) : Vec F S128x3584 .bf16 := k0_pay3 (hAll m c) (iblk m c 2 (pt 6 six_lt))

/-- The block of the activation computed at point `t`. -/
def actBlk (c : Dev nD) (t : Fin cfg0.N) : Vec F S128x512 .bf16 :=
  k0_pay5 (h2 m c) (iblk m c 8 t) (iblk m c 4 t) (h2 m c) (iblk m c 9 t) (iblk m c 5 t)

/-- The sum of the first `k` parts of the down product. -/
def acc (c : Dev nD) : ℕ → Vec F S128x3584 .f32
  | 0 => k0_pay4
  | k + 1 => if h : k + 7 < 35 then
      k0_pay6 (h2 m c) (iblk m c 8 (pt (k + 7) h)) (iblk m c 4 (pt (k + 7) h)) (h2 m c) (iblk m c 9 (pt (k + 7) h)) (iblk m c 5 (pt (k + 7) h))
        (acc c k) (iblk m c 10 (pt (k + 7) h))
    else acc c k

/-- The result. -/
def outAll (c : Dev nD) : Vec F S128x3584 .bf16 := k0_pay7 (hAll m c) (acc m c 28) (iblk m c 6 (pt 34 last_lt))

/-! ## What holds between points -/

/-- The first `k` blocks of `X` are those of the residual sum. -/
def Filled (c : Dev nD) (k : ℕ) (X : Vec F S128x3584 .bf16) : Prop :=
  ∀ j : S128x3584.Idx, (j 1).val < 512 * k → X j = hAll m c j

/-- What the three kept buffers hold before point `n`. -/
def Kept (c : Dev nD) (n : ℕ) (X15 : Vec F S128x3840 .bf16) (X16 : Vec F S128x3584 .bf16) (X17 : Vec F S128x3584 .f32) : Prop :=
  (1 ≤ n → X15 = attT m c) ∧ (7 ≤ n → X16 = h2 m c ∧ X17 = acc m c (n - 7))

/-- The block put at point `t` extends the part filled by one block. -/
theorem filled_put (c : Dev nD) (t : Fin cfg0.N) (ht : t.val < 7) (X : Vec F S128x3584 .bf16) (hX : Filled m c t.val X) :
    Filled m c (t.val + 1) (VecWindow.put X (k0_off1 (grid0.coords t)) S128x512.size (hBlk m c t.val ht)) := by
  intro j hj
  unfold VecWindow.put
  rw [off1_eq t]
  split
  · next h =>
    have h1 := h 1
    have e : (![0, 512 * t.val] : Fin 2 → ℕ) 1 = 512 * t.val := rfl
    rw [e] at h1
    unfold hAll
    have hq : (j 1).val / 512 = t.val := by omega
    have key : ∀ (q : ℕ) (hq' : q < 7) (y : S128x512.Idx) (hqq : q = t.val) (r : Fin 512), r.val = (y 1).val →
        hBlk m c t.val ht y = hBlk m c q hq' (ix2 (y 0) r) := by
      intro q hq' y hqq r hr
      subst hqq
      congr 1
      funext a
      match a with
      | ⟨0, _⟩ => rfl
      | ⟨1, _⟩ => exact Fin.ext hr.symm
    refine (key _ (by omega) _ hq ⟨(j 1).val % 512, Nat.mod_lt _ (by omega)⟩ ?_).trans ?_
    · show (j 1).val % 512 = (j 1).val - 512 * t.val
      omega
    · congr 1
  · next h =>
    refine hX j ?_
    by_contra hc
    refine h fun a => ?_
    match a with
    | ⟨0, _⟩ => exact ⟨Nat.zero_le _, by have h0 : (j 0).val < 128 := (j 0).isLt; show (j 0).val < 0 + 128; omega⟩
    | ⟨1, _⟩ =>
      refine ⟨?_, ?_⟩
      · show 512 * t.val ≤ (j 1).val
        omega
      · show (j 1).val < 512 * t.val + 512
        omega

/-- With all seven blocks the residual sum is complete. -/
theorem eq_of_filled (c : Dev nD) (k : ℕ) (hk : 7 ≤ k) (X : Vec F S128x3584 .bf16) (hX : Filled m c k X) : X = hAll m c :=
  funext fun j => hX j (by have h : (j 1).val < 3584 := (j 1).isLt; omega)

theorem Filled.mono (c : Dev nD) {k k' : ℕ} (h : k' ≤ k) {X : Vec F S128x3584 .bf16} (hX : Filled m c k X) : Filled m c k' X :=
  fun j hj => hX j (by omega)

/-- One more part of the down product. -/
theorem acc_step (c : Dev nD) (t : Fin cfg0.N) (ht : 7 ≤ t.val) :
    k0_pay6 (h2 m c) (iblk m c 8 t) (iblk m c 4 t) (h2 m c) (iblk m c 9 t) (iblk m c 5 t) (acc m c (t.val - 7)) (iblk m c 10 t)
      = acc m c (t.val + 1 - 7) := by
  obtain ⟨k, hk⟩ : ∃ k, t.val = k + 7 := ⟨t.val - 7, by omega⟩
  have hlt : k + 7 < 35 := by have := lt_N t; omega
  obtain rfl : t = pt (k + 7) hlt := Fin.ext hk
  have e1 : (pt (k + 7) hlt).val - 7 = k := by show k + 7 - 7 = k; omega
  have e2 : (pt (k + 7) hlt).val + 1 - 7 = k + 1 := by show k + 7 + 1 - 7 = k + 1; omega
  rw [e1, e2]
  rw [acc, dif_pos hlt]

end Cert.Kernel.Hand

end
-- ==== Proof.KData.lean ====
/- The data of the pipeline: what each window holds, what the body may leave in the results' buffers, and what is kept
   between points; and the body's step at every point. -/
module

public import proofs.«01_k».proof.Proof.Gen.Kernel.Frame
public import proofs.«01_k».proof.Proof.Gen.Kernel.Skeleton
public import Idealize.ShloMosaic.Lib.VecWindow
public import Idealize.ShloMosaic.Lib.Pointwise.Index
public import Idealize.ShloMosaic.Lib.Pipeline.DatRel
public import proofs.«01_k».proof.Proof.KInv

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.Kernel.Gen

variable {F : FTy → Type} [FloatOps F]

local notation "𝕄" => MT nD τ sig Unit (Elt F) ℕ (UR sig nD τ) ℕ

variable (m : (ℓ : Loc nD τ sig) → Buf (Elt F) ℓ)

/-- What holds before point `n`: the kept buffers, and the generator register at anything. -/
def PhiS (c : Dev nD) (n : ℕ) (_ : n ≤ cfg0.N) : sProp 𝕄 :=
  iprop(∃ (X15 : Vec F S128x3840 .bf16) (X16 : Vec F S128x3584 .bf16) (X17 : Vec F S128x3584 .f32), ⌜Kept m c n X15 X16 X17⌝
    ∗ owns (c : Thread nD τ) (Memref.whole cc0_scratch0) fullShare X15
    ∗ owns (c : Thread nD τ) (Memref.whole cc0_scratch1) fullShare X16
    ∗ owns (c : Thread nD τ) (Memref.whole cc0_scratch2) fullShare X17
    ∗ ∃ r, prngReg c r)

/-- The pipeline's data on core `c`: every input's buffer holds its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => hAll m c
    | ⟨12, _⟩ => actBlk m c t
    | ⟨13, _⟩ => outAll m c
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val (le_of_lt t.isLt) := by
  dsimp only [dats]; exact Pipeline.Dat.Φ_castSucc (PhiS m c) t
theorem Phi_succ (c : Dev nD) (t : Fin cfg0.N) : (dats m 0 c).Φ t.succ = PhiS m c (t.val + 1) t.isLt := by
  dsimp only [dats]; rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- The results' windows, held to relations. -/
def fgt (w : Fin cfg0.W) : Bool := decide (11 ≤ w.val)

/-- What the body may leave in a result's buffer after point `t`. -/
def Rl (c : Dev nD) (w : Fin cfg0.W) (t : Fin cfg0.N) : ((cfg0.win w).block.Idx → Elt F (cfg0.win w).elt) → Prop :=
  match w with
  | ⟨11, _⟩ => fun X => Filled m c (t.val + 1) X
  | ⟨12, _⟩ => fun X => 7 ≤ t.val → X = actBlk m c t
  | ⟨13, _⟩ => fun X => t.val = 34 → X = outAll m c
  | _ => fun _ => True

/-- The pipeline's relational data. -/
def rdats (c : Dev nD) : RDat τ (Elt F) Unit ℕ (UR sig nD τ) ℕ cfg0 c := (dats m 0 c).toRRel fgt (Rl m c)

/-- Before point `t` the blocks of the residual sum below number `t` are in place. -/
theorem finds11 (c : Dev nD) (t : Fin cfg0.N) (Y : Vec F S128x3584 .bf16) (h : (rdats m c).Finds 11 t Y) : Filled m c t.val Y := by
  by_cases ht : t.val = 0
  · intro j hj
    omega
  · rcases (RDat.finds_of_pos (rd := rdats m c) (w := 11) (t := t) rfl ht Y).mp h with hf | hl
    · exact absurd ((flush0_11 _).mp hf) (by have := lt_N t; show ¬ (t.val - 1) % 35 = 34; omega)
    · have h' := (dats m 0 c).toRRel_leaves (fgt := fgt) (Rl := Rl m c) (w := 11) rfl hl
      have h'' : Filled m c (t.val - 1 + 1) Y := h'
      exact h''.mono m c (by omega)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ Y, ⌜(rdats m c).Finds 11 t Y⌝ ∗ owns (c : Thread nD τ) (st0_11 t) fullShare Y)
    ∗ (∃ Y, ⌜(rdats m c).Finds 12 t Y⌝ ∗ owns (c : Thread nD τ) (st0_12 t) fullShare Y)
    ∗ (∃ Y, ⌜(rdats m c).Finds 13 t Y⌝ ∗ owns (c : Thread nD τ) (st0_13 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ (∃ X, ⌜Rl m c 11 t X⌝ ∗ owns (c : Thread nD τ) (st0_11 t) fullShare X)
    ∗ (∃ X, ⌜Rl m c 12 t X⌝ ∗ owns (c : Thread nD τ) (st0_12 t) fullShare X)
    ∗ (∃ X, ⌜Rl m c 13 t X⌝ ∗ owns (c : Thread nD τ) (st0_13 t) fullShare X))

/-- The first point: the attention rows are transposed and block 0 of the residual sum is written. -/
theorem step_first (c : Dev nD) (t : Fin cfg0.N) (ht : t.val = 0) :
    bodyPre m c t ⊢ wp frame (wpE (defs₀ (F := F)) Variants.none c none) Set.univ (bodyAt0 t) (fun _ => bodyPost m c t) := by
  have hN := lt_N t
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl, Phi_castSucc, Phi_succ,
    after0_0, after0_1, after0_2, after0_3, after0_4, after0_5, after0_6, after0_7, after0_8, after0_9, after0_10]
  unfold PhiS
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%Y11, %hY11, H11⟩, ⟨%Y12, %hY12, H12⟩, ⟨%Y13, %hY13, H13⟩⟩
  icases HΦ with ⟨%X15, %X16, %X17, %hK, K15, K16, K17, Hg⟩
  have hF : Filled m c t.val Y11 := finds11 m c t Y11 hY11
  obtain rfl : t = pt 0 zero_lt := Fin.ext ht
  iapply (body_first c Set.univ (grid0.coords (pt 0 zero_lt)) ((cond1_iff (pt 0 zero_lt)).mpr (by decide)) ((cond2_iff (pt 0 zero_lt)).mpr (by decide)) (fun hc => absurd ((cond3_iff (pt 0 zero_lt)).mp hc) (by decide)) (fun hc => absurd ((cond4_iff (pt 0 zero_lt)).mp hc) (by decide)) (fun hc => absurd ((cond5_iff (pt 0 zero_lt)).mp hc) (by decide)) _ _ _ _ _ _ _ _ _ _ _ _ _ _ _ _ _ _ _ _ _ _ _ _ _ _ _ _ (Memref.whole cc0_scratch0) _ (Memref.whole cc0_scratch1) _ (Memref.whole cc0_scratch2) _
    (iblk m c 0 (pt 0 zero_lt)) (iblk m c 1 (pt 0 zero_lt)) (iblk m c 2 (pt 0 zero_lt)) (iblk m c 3 (pt 0 zero_lt)) (iblk m c 4 (pt 0 zero_lt)) (iblk m c 5 (pt 0 zero_lt)) (iblk m c 6 (pt 0 zero_lt)) (iblk m c 7 (pt 0 zero_lt)) (iblk m c 8 (pt 0 zero_lt)) (iblk m c 9 (pt 0 zero_lt)) (iblk m c 10 (pt 0 zero_lt)) Y11 Y12 Y13 X15 X16 X17 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [K15]; · iexact K15
  isplitl [K16]; · iexact K16
  isplitl [K17]; · iexact K17
  iintro ⟨H0, H1, H2, H3, H4, H5, H6, H7, H8, H9, H10, H11, H12, H13, K15, K16, K17⟩
  isplitl [K15 K16 K17 Hg]
  · iexists (attT m c); iexists X16; iexists X17
    isplitr [K15 K16 K17 Hg]
    · ipureintro
      exact ⟨fun _ => rfl, fun hc => absurd hc (by show ¬ 7 ≤ 0 + 1; omega)⟩
    isplitl [K15]; · iexact K15
    isplitl [K16]; · iexact K16
    isplitl [K17]; · iexact K17
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iexists _
    isplitr [H11]
    · ipureintro
      exact filled_put m c (pt 0 zero_lt) (by show 0 < 7; omega) Y11 hF
    iexact H11
  isplitl [H12]
  · iexists Y12
    isplitr [H12]
    · ipureintro
      show 7 ≤ (pt 0 zero_lt).val → _
      exact fun hc => absurd hc (by omega)
    iexact H12
  iexists Y13
  isplitr [H13]
  · ipureintro
    show (pt 0 zero_lt).val = 34 → _
    exact fun hc => absurd hc (by omega)
  iexact H13

/-- The points 1 to 5: a block of the residual sum is written. -/
theorem step_mid (c : Dev nD) (t : Fin cfg0.N) (h1 : 1 ≤ t.val) (h6 : t.val < 6) :
    bodyPre m c t ⊢ wp frame (wpE (defs₀ (F := F)) Variants.none c none) Set.univ (bodyAt0 t) (fun _ => bodyPost m c t) := by
  have hN := lt_N t
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl, Phi_castSucc, Phi_succ,
    after0_0, after0_1, after0_2, after0_3, after0_4, after0_5, after0_6, after0_7, after0_8, after0_9, after0_10]
  unfold PhiS
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%Y11, %hY11, H11⟩, ⟨%Y12, %hY12, H12⟩, ⟨%Y13, %hY13, H13⟩⟩
  icases HΦ with ⟨%X15, %X16, %X17, %hK, K15, K16, K17, Hg⟩
  have hF : Filled m c t.val Y11 := finds11 m c t Y11 hY11
  have e15 : X15 = attT m c := hK.1 (by omega)
  subst e15
  iapply (body_mid c Set.univ (grid0.coords t) (fun hc => absurd ((cond1_iff t).mp hc) (by omega)) ((cond2_iff t).mpr (by omega)) (fun hc => absurd ((cond3_iff t).mp hc) (by omega)) (fun hc => absurd ((cond4_iff t).mp hc) (by omega)) (fun hc => absurd ((cond5_iff t).mp hc) (by omega)) _ _ _ _ _ _ _ _ _ _ _ _ _ _ _ _ _ _ _ _ _ _ _ _ _ _ _ _ (Memref.whole cc0_scratch0) _ (Memref.whole cc0_scratch1) _ (Memref.whole cc0_scratch2) _
    (iblk m c 0 t) (iblk m c 1 t) (iblk m c 2 t) (iblk m c 3 t) (iblk m c 4 t) (iblk m c 5 t) (iblk m c 6 t) (iblk m c 7 t) (iblk m c 8 t) (iblk m c 9 t) (iblk m c 10 t) Y11 Y12 Y13 (attT m c) X16 X17 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [K15]; · iexact K15
  isplitl [K16]; · iexact K16
  isplitl [K17]; · iexact K17
  iintro ⟨H0, H1, H2, H3, H4, H5, H6, H7, H8, H9, H10, H11, H12, H13, K15, K16, K17⟩
  isplitl [K15 K16 K17 Hg]
  · iexists (attT m c); iexists X16; iexists X17
    isplitr [K15 K16 K17 Hg]
    · ipureintro
      exact ⟨fun _ => rfl, fun hc => absurd hc (by omega)⟩
    isplitl [K15]; · iexact K15
    isplitl [K16]; · iexact K16
    isplitl [K17]; · iexact K17
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iexists _
    isplitr [H11]
    · ipureintro
      exact filled_put m c t (by omega) Y11 hF
    iexact H11
  isplitl [H12]
  · iexists Y12
    isplitr [H12]
    · ipureintro
      show 7 ≤ t.val → _
      exact fun hc => absurd hc (by omega)
    iexact H12
  iexists Y13
  isplitr [H13]
  · ipureintro
    show t.val = 34 → _
    exact fun hc => absurd hc (by omega)
  iexact H13

/-- Point 6: the last block of the residual sum is written and the rows are normalised. -/
theorem step_turn (c : Dev nD) (t : Fin cfg0.N) (ht : t.val = 6) :
    bodyPre m c t ⊢ wp frame (wpE (defs₀ (F := F)) Variants.none c none) Set.univ (bodyAt0 t) (fun _ => bodyPost m c t) := by
  have hN := lt_N t
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl, Phi_castSucc, Phi_succ,
    after0_0, after0_1, after0_2, after0_3, after0_4, after0_5, after0_6, after0_7, after0_8, after0_9, after0_10]
  unfold PhiS
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%Y11, %hY11, H11⟩, ⟨%Y12, %hY12, H12⟩, ⟨%Y13, %hY13, H13⟩⟩
  icases HΦ with ⟨%X15, %X16, %X17, %hK, K15, K16, K17, Hg⟩
  have hF : Filled m c t.val Y11 := finds11 m c t Y11 hY11
  obtain rfl : t = pt 6 six_lt := Fin.ext ht
  have e15 : X15 = attT m c := hK.1 (by show 1 ≤ 6; omega)
  subst e15
  have hP := filled_put m c (pt 6 six_lt) (by show 6 < 7; omega) Y11 hF
  have eP := eq_of_filled m c _ (by show 7 ≤ 6 + 1; omega) _ hP
  iapply (body_turn c Set.univ (grid0.coords (pt 6 six_lt)) (fun hc => absurd ((cond1_iff (pt 6 six_lt)).mp hc) (by decide)) ((cond2_iff (pt 6 six_lt)).mpr (by decide)) ((cond3_iff (pt 6 six_lt)).mpr (by decide)) (fun hc => absurd ((cond4_iff (pt 6 six_lt)).mp hc) (by decide)) (fun hc => absurd ((cond5_iff (pt 6 six_lt)).mp hc) (by decide)) _ _ _ _ _ _ _ _ _ _ _ _ _ _ _ _ _ _ _ _ _ _ _ _ _ _ _ _ (Memref.whole cc0_scratch0) _ (Memref.whole cc0_scratch1) _ (Memref.whole cc0_scratch2) _
    (iblk m c 0 (pt 6 six_lt)) (iblk m c 1 (pt 6 six_lt)) (iblk m c 2 (pt 6 six_lt)) (iblk m c 3 (pt 6 six_lt)) (iblk m c 4 (pt 6 six_lt)) (iblk m c 5 (pt 6 six_lt)) (iblk m c 6 (pt 6 six_lt)) (iblk m c 7 (pt 6 six_lt)) (iblk m c 8 (pt 6 six_lt)) (iblk m c 9 (pt 6 six_lt)) (iblk m c 10 (pt 6 six_lt)) Y11 Y12 Y13 (attT m c) X16 X17 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [K15]; · iexact K15
  isplitl [K16]; · iexact K16
  isplitl [K17]; · iexact K17
  iintro ⟨H0, H1, H2, H3, H4, H5, H6, H7, H8, H9, H10, H11, H12, H13, K15, K16, K17⟩
  isplitl [K15 K16 K17 Hg]
  · iexists (attT m c); iexists _; iexists _
    isplitr [K15 K16 K17 Hg]
    · ipureintro
      exact ⟨fun _ => rfl, fun _ => ⟨congrArg (fun X => k0_pay3 X (iblk m c 2 (pt 6 six_lt))) eP, rfl⟩⟩
    isplitl [K15]; · iexact K15
    isplitl [K16]; · iexact K16
    isplitl [K17]; · iexact K17
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iexists _
    isplitr [H11]
    · ipureintro
      exact hP
    iexact H11
  isplitl [H12]
  · iexists Y12
    isplitr [H12]
    · ipureintro
      show 7 ≤ (pt 6 six_lt).val → _
      exact fun hc => absurd hc (by omega)
    iexact H12
  iexists Y13
  isplitr [H13]
  · ipureintro
    show (pt 6 six_lt).val = 34 → _
    exact fun hc => absurd hc (by omega)
  iexact H13

/-- The points 7 to 33: a block of the activation is written and its part of the down product is added. -/
theorem step_ff (c : Dev nD) (t : Fin cfg0.N) (h7 : 7 ≤ t.val) (h34 : t.val < 34) :
    bodyPre m c t ⊢ wp frame (wpE (defs₀ (F := F)) Variants.none c none) Set.univ (bodyAt0 t) (fun _ => bodyPost m c t) := by
  have hN := lt_N t
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl, Phi_castSucc, Phi_succ,
    after0_0, after0_1, after0_2, after0_3, after0_4, after0_5, after0_6, after0_7, after0_8, after0_9, after0_10]
  unfold PhiS
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%Y11, %hY11, H11⟩, ⟨%Y12, %hY12, H12⟩, ⟨%Y13, %hY13, H13⟩⟩
  icases HΦ with ⟨%X15, %X16, %X17, %hK, K15, K16, K17, Hg⟩
  have hF : Filled m c t.val Y11 := finds11 m c t Y11 hY11
  have e15 : X15 = attT m c := hK.1 (by omega)
  have e16 : X16 = h2 m c := (hK.2 (by omega)).1
  have e17 : X17 = acc m c (t.val - 7) := (hK.2 (by omega)).2
  subst e15 e16 e17
  iapply (body_ff c Set.univ (grid0.coords t) (fun hc => absurd ((cond1_iff t).mp hc) (by omega)) (fun hc => absurd ((cond2_iff t).mp hc) (by omega)) (fun hc => absurd ((cond3_iff t).mp hc) (by omega)) ((cond4_iff t).mpr (by omega)) (fun hc => absurd ((cond5_iff t).mp hc) (by omega)) _ _ _ _ _ _ _ _ _ _ _ _ _ _ _ _ _ _ _ _ _ _ _ _ _ _ _ _ (Memref.whole cc0_scratch0) _ (Memref.whole cc0_scratch1) _ (Memref.whole cc0_scratch2) _
    (iblk m c 0 t) (iblk m c 1 t) (iblk m c 2 t) (iblk m c 3 t) (iblk m c 4 t) (iblk m c 5 t) (iblk m c 6 t) (iblk m c 7 t) (iblk m c 8 t) (iblk m c 9 t) (iblk m c 10 t) Y11 Y12 Y13 (attT m c) (h2 m c) (acc m c (t.val - 7)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [K15]; · iexact K15
  isplitl [K16]; · iexact K16
  isplitl [K17]; · iexact K17
  iintro ⟨H0, H1, H2, H3, H4, H5, H6, H7, H8, H9, H10, H11, H12, H13, K15, K16, K17⟩
  isplitl [K15 K16 K17 Hg]
  · iexists (attT m c); iexists (h2 m c); iexists _
    isplitr [K15 K16 K17 Hg]
    · ipureintro
      exact ⟨fun _ => rfl, fun _ => ⟨rfl, acc_step m c t (by omega)⟩⟩
    isplitl [K15]; · iexact K15
    isplitl [K16]; · iexact K16
    isplitl [K17]; · iexact K17
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iexists Y11
    isplitr [H11]
    · ipureintro
      exact fun j hj => hF j (by have h : (j 1).val < 3584 := (j 1).isLt; omega)
    iexact H11
  isplitl [H12]
  · iexists _
    isplitr [H12]
    · ipureintro
      exact fun _ => rfl
    iexact H12
  iexists Y13
  isplitr [H13]
  · ipureintro
    show t.val = 34 → _
    exact fun hc => absurd hc (by omega)
  iexact H13

/-- Point 34: as before it, and the result is written. -/
theorem step_last (c : Dev nD) (t : Fin cfg0.N) (ht : t.val = 34) :
    bodyPre m c t ⊢ wp frame (wpE (defs₀ (F := F)) Variants.none c none) Set.univ (bodyAt0 t) (fun _ => bodyPost m c t) := by
  have hN := lt_N t
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl, Phi_castSucc, Phi_succ,
    after0_0, after0_1, after0_2, after0_3, after0_4, after0_5, after0_6, after0_7, after0_8, after0_9, after0_10]
  unfold PhiS
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%Y11, %hY11, H11⟩, ⟨%Y12, %hY12, H12⟩, ⟨%Y13, %hY13, H13⟩⟩
  icases HΦ with ⟨%X15, %X16, %X17, %hK, K15, K16, K17, Hg⟩
  have hF : Filled m c t.val Y11 := finds11 m c t Y11 hY11
  have e15 : X15 = attT m c := hK.1 (by omega)
  have e16 : X16 = h2 m c := (hK.2 (by omega)).1
  have e17 : X17 = acc m c (t.val - 7) := (hK.2 (by omega)).2
  subst e15 e16 e17
  have eY := eq_of_filled m c _ (by omega) _ hF
  have ea := acc_step m c t (by omega)
  rw [show t.val + 1 - 7 = 28 by omega] at ea
  iapply (body_last c Set.univ (grid0.coords t) (fun hc => absurd ((cond1_iff t).mp hc) (by omega)) (fun hc => absurd ((cond2_iff t).mp hc) (by omega)) (fun hc => absurd ((cond3_iff t).mp hc) (by omega)) ((cond4_iff t).mpr (by omega)) ((cond5_iff t).mpr (by omega)) _ _ _ _ _ _ _ _ _ _ _ _ _ _ _ _ _ _ _ _ _ _ _ _ _ _ _ _ (Memref.whole cc0_scratch0) _ (Memref.whole cc0_scratch1) _ (Memref.whole cc0_scratch2) _
    (iblk m c 0 t) (iblk m c 1 t) (iblk m c 2 t) (iblk m c 3 t) (iblk m c 4 t) (iblk m c 5 t) (iblk m c 6 t) (iblk m c 7 t) (iblk m c 8 t) (iblk m c 9 t) (iblk m c 10 t) Y11 Y12 Y13 (attT m c) (h2 m c) (acc m c (t.val - 7)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [K15]; · iexact K15
  isplitl [K16]; · iexact K16
  isplitl [K17]; · iexact K17
  iintro ⟨H0, H1, H2, H3, H4, H5, H6, H7, H8, H9, H10, H11, H12, H13, K15, K16, K17⟩
  isplitl [K15 K16 K17 Hg]
  · iexists (attT m c); iexists (h2 m c); iexists _
    isplitr [K15 K16 K17 Hg]
    · ipureintro
      exact ⟨fun _ => rfl, fun _ => ⟨rfl, acc_step m c t (by omega)⟩⟩
    isplitl [K15]; · iexact K15
    isplitl [K16]; · iexact K16
    isplitl [K17]; · iexact K17
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iexists Y11
    isplitr [H11]
    · ipureintro
      exact fun j hj => hF j (by have h : (j 1).val < 3584 := (j 1).isLt; omega)
    iexact H11
  isplitl [H12]
  · iexists _
    isplitr [H12]
    · ipureintro
      exact fun _ => rfl
    iexact H12
  iexists _
  isplitr [H13]
  · ipureintro
    intro _
    have et : (iblk m c 6 t : Vec F S1x3584 .f32) = (iblk m c 6 (pt 34 last_lt) : Vec F S1x3584 .f32) := by rw [show t = pt 34 last_lt from Fin.ext ht]
    show _ = k0_pay7 (hAll m c) (acc m c 28) (iblk m c 6 (pt 34 last_lt))
    rw [← et, ← eY, ← ea]
  iexact H13

/-- The body at any point. -/
theorem sound_body (c : Dev nD) (t : Fin cfg0.N) :
    bodyPre m c t ⊢ wp frame (wpE (defs₀ (F := F)) Variants.none c none) Set.univ (bodyAt0 t) (fun _ => bodyPost m c t) := by
  have hN := lt_N t
  by_cases h0 : t.val = 0
  · exact step_first m c t h0
  by_cases h6 : t.val < 6
  · exact step_mid m c t (by omega) h6
  by_cases e6 : t.val = 6
  · exact step_turn m c t e6
  by_cases h34 : t.val < 34
  · exact step_ff m c t (by omega) h34
  · exact step_last m c t (by omega)

theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) :
    BodyObligationRel (dats (F := F) m 0 c) (defs₀ (F := F)) Variants.none () Set.univ fgt (Rl m c) := fun t => by
  rw [bigSep_W0, bigSep_W0, defs₀_row]
  exact triple_restated (sound_body m c t) rfl .rfl fun _ => .rfl

end Cert.Kernel.Hand

end
-- ==== Proof.KRun.lean ====
/- The run of the whole program: every execution ends, the arguments are left alone, and the three results hold the
   residual sum, the activation and the result of the layer.
-/
module

public import proofs.«01_k».proof.Proof.Gen.Kernel.Frame
public import proofs.«01_k».proof.Proof.Gen.Kernel.Skeleton
public import Idealize.ShloMosaic.Lib.VecWindow
public import Idealize.ShloMosaic.Lib.Pointwise.Index
public import Idealize.ShloMosaic.Lib.Pipeline.DatRel
public import Idealize.ShloMosaic.Lib.Pipeline.ArrRel
public import Idealize.ShloMosaic.Lib.Pipeline.ValueKit
public import proofs.«01_k».proof.Proof.KData

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Before the first point nothing is claimed of the kept buffers. -/
theorem phi_in (c : Dev nD) : (Pipeline.ΦA spec0 c : sProp 𝕄) ⊢ (rdats m c).Φ 0 := by
  show _ ⊢ PhiS m c 0 (Nat.zero_le _)
  unfold Pipeline.ΦA PhiS
  rw [scopedRest0_eq]
  simp only [← owns_whole]
  iintro ⟨⟨⟨%f0, H0⟩, ⟨%f1, H1⟩, ⟨%f2, H2⟩⟩, Hg⟩
  iexists f0; iexists f1; iexists f2
  isplitr [H0 H1 H2 Hg]
  · ipureintro
    exact ⟨fun h => absurd h (by decide), fun h => absurd h (by decide)⟩
  isplitl [H0]; · iexact H0
  isplitl [H1]; · iexact H1
  isplitl [H2]; · iexact H2
  iexact Hg

/-- After the last point the kept buffers are given back. -/
theorem phi_out (c : Dev nD) : (rdats m c).Φ (Fin.last cfg0.N) ⊢ (Pipeline.ΦA spec0 c : sProp 𝕄) := by
  show PhiS m c cfg0.N (le_refl _) ⊢ _
  unfold Pipeline.ΦA PhiS
  rw [scopedRest0_eq]
  simp only [← owns_whole]
  iintro ⟨%f0, %f1, %f2, -, H0, H1, H2, Hg⟩
  isplitl [H0 H1 H2]
  · isplitl [H0]; · iexists f0; iexact H0
    isplitl [H1]; · iexists f1; iexact H1
    iexists f2; iexact H2
  iexact Hg

set_option backward.isDefEq.respectTransparency.types false in
set_option maxHeartbeats 800000 in
/-- The run: the pipeline's arrays at what the data allow, and every counter at zero. -/
theorem run_rel : θ_run defs (onTc (τ := τ) (main (F := F))) (s₀ m ρ)
    (fun r => RDat.FramePost (cfgs 0) (rdats m) (V m) r ∧ r.2.sem = fun _ => 0) :=
  Pipeline.RDat.θ_run_frame_track cfgs (0 : Fin 1) launch0 defs₀ Variants.none (rdats m) m ρ main
    (hbody := fun c => (body_obligation m c).toRRel) (hshare := fun c => (dats m 0 c).share_full fun _ => rfl)
    (howed := fun _ _ => rfl) (V := V m) (hmain := hmain m Variants.none) (hA := A_eq m)
    (hin := phi_in m) (hout := phi_out m)
    (Q' := fun r => RDat.FramePost (cfgs 0) (rdats m) (V m) r ∧ r.2.sem = fun _ => 0) (hQ' := fun _ h => h)

/-- The arguments are left alone. -/
theorem args_of (r : PUnit × MemSt nD τ sig (Elt F)) (h : RDat.FramePost (cfgs 0) (rdats m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨(h.arr_in c 0 rfl).trans ((A_eq m c 0).trans (V_main_arg0 m c)),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    (h.arr_in c 7 rfl).trans ((A_eq m c 7).trans (V_main_arg7 m c)),
    (h.arr_in c 8 rfl).trans ((A_eq m c 8).trans (V_main_arg8 m c)),
    (h.arr_in c 9 rfl).trans ((A_eq m c 9).trans (V_main_arg9 m c)),
    (h.arr_in c 10 rfl).trans ((A_eq m c 10).trans (V_main_arg10 m c))⟩

/-- Every execution ends with the arguments left alone and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨args_of m r h.1, h.2⟩) (run_rel m ρ)

/-! ## The results -/

/-- The activation: its 28 blocks side by side. -/
def actAll (c : Dev nD) : Vec F S128x14336 .bf16 := fun j =>
  actBlk m c (pt ((j 1).val / 512 + 7) (by have h : (j 1).val < 14336 := (j 1).isLt; omega))
    (ix2 (j 0) ⟨(j 1).val % 512, Nat.mod_lt _ (by omega)⟩)

theorem idx12 : ∀ t : Fin cfg0.N, (cfg0.win 12).index t 0 = 0 ∧ (cfg0.win 12).index t 1 = t.val - 7 := by decide +kernel
theorem idx11 : ∀ t : Fin cfg0.N, ∀ a, (cfg0.win 11).index t a = 0 := by decide +kernel
theorem idx13 : ∀ t : Fin cfg0.N, ∀ a, (cfg0.win 13).index t a = 0 := by decide +kernel
theorem flush12 : ∀ t : Fin cfg0.N, (cfg0.win 12).flush t = true ↔ 7 ≤ t.val := by decide +kernel

/-- What the results hold at the end. -/
theorem results_of (r : PUnit × MemSt nD τ sig (Elt F)) (h : RDat.FramePost (cfgs 0) (rdats m) (V m) r) (c : Dev nD) :
    r.2.mem ((c.tc : Thread nD τ).loc main_v6_0) = hAll m c
      ∧ r.2.mem ((c.tc : Thread nD τ).loc main_v6_1) = actAll m c
      ∧ r.2.mem ((c.tc : Thread nD τ).loc main_v6_2) = outAll m c := by
  obtain ⟨after, hL, hA⟩ := RDat.FramePost.exists_exact h c
  refine ⟨(hA 11).trans ?_, (hA 12).trans ?_, (hA 13).trans ?_⟩
  · refine ((rdats m c).withAfter after).arrAt_eq_of_covers 11 (hAll m c) (by decide +kernel) fun t hf y => ?_
    have ht := (flush0_11 t).mp hf
    have hN := lt_N t
    have hX : Filled m c (t.val + 1) (after 11 t) := (dats m 0 c).toRRel_leaves (fgt := fgt) (Rl := Rl m c) (w := 11) rfl (hL 11 t hf)
    have e : after 11 t = hAll m c := eq_of_filled m c _ (by omega) _ hX
    blk_simp
    refine (congrFun e y).trans (congrArg (hAll m c) (funext fun a => Fin.ext ?_))
    exact (Pipeline.Window.rect_emb_val_of_index_zero win0_11 t a (idx11 t a) y).symm
  · refine ((rdats m c).withAfter after).arrAt_eq_of_covers 12 (actAll m c) (by decide +kernel) fun t hf y => ?_
    have ht := (flush12 t).mp hf
    have hN := lt_N t
    have hX : 7 ≤ t.val → after 12 t = actBlk m c t := (dats m 0 c).toRRel_leaves (fgt := fgt) (Rl := Rl m c) (w := 12) rfl (hL 12 t hf)
    have e := hX ht
    blk_simp
    refine (congrFun e y).trans ?_
    have h0 : (((win0_12.blk t).view.emb y) 0).val = (y 0).val := by
      show (((win0_12.rect t).emb y) 0).val = _
      rw [Pipeline.Window.rect_emb_val win0_12, show win0_12.index t 0 = 0 from (idx12 t).1, Nat.zero_mul, Nat.zero_add]
    have h1 : (((win0_12.blk t).view.emb y) 1).val = (t.val - 7) * 512 + (y 1).val := by
      show (((win0_12.rect t).emb y) 1).val = _
      rw [Pipeline.Window.rect_emb_val win0_12, show win0_12.index t 1 = t.val - 7 from (idx12 t).2]
      rfl
    have hy : (y 1).val < 512 := (y 1).isLt
    have ha : actBlk m c (pt ((((win0_12.blk t).view.emb y) 1).val / 512 + 7) (by omega)) = actBlk m c t :=
      congrArg (actBlk m c) (Fin.ext (by show _ / 512 + 7 = t.val; omega))
    unfold actAll
    rw [ha]
    refine congrArg (actBlk m c t) (funext fun a => ?_)
    match a with
    | ⟨0, _⟩ => exact Fin.ext h0.symm
    | ⟨1, _⟩ => exact Fin.ext (by show (y 1).val = _ % 512; omega)
  · refine ((rdats m c).withAfter after).arrAt_eq_of_covers 13 (outAll m c) (by decide +kernel) fun t hf y => ?_
    have ht := (flush0_13 t).mp hf
    have hN := lt_N t
    have hX : t.val = 34 → after 13 t = outAll m c := (dats m 0 c).toRRel_leaves (fgt := fgt) (Rl := Rl m c) (w := 13) rfl (hL 13 t hf)
    have e := hX (by omega)
    blk_simp
    refine (congrFun e y).trans (congrArg (outAll m c) (funext fun a => Fin.ext ?_))
    exact (Pipeline.Window.rect_emb_val_of_index_zero win0_13 t a (idx13 t a) y).symm

end Cert.Kernel.Hand

end
-- ==== Proof.KIBody.lean ====
/- The body of the kernel at one grid point: what each branch leaves in the outputs' blocks and in the three
   buffers the kernel keeps between points. The grid has 35 points: at points 0 … 6 the body computes a block of 512
   columns of the residual sum, at points 7 … 34 a block of 512 columns of the activation and its part of the down
   product. -/
module

public import proofs.«01_k».proof.Proof.Gen.KernelIdeal.Frame
public import proofs.«01_k».proof.Proof.Gen.KernelIdeal.Skeleton
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- Point 0: the transposed attention block is put in the first kept buffer, and the first block of the residual sum computed from it. -/
theorem body_first (c : Dev nD) (E : Set ℕ) (i : grid0.Coords) (h1 : (Scalar.cmpi .ne (Scalar.extui (Scalar.cmpi .eq (BitVec.ofNat 32 (i 0).val) 0#32) : BitVec 32) 0#32 : BitVec 1) = 1#1) (h2 : k0_cond2 i = 1#1) (h3 : ¬ (Scalar.cmpi .ne (Scalar.extui (Scalar.cmpi .eq (BitVec.ofNat 32 (i 0).val) 6#32) : BitVec 32) 0#32 : BitVec 1) = 1#1) (h4 : ¬ k0_cond4 i = 1#1) (h5 : ¬ k0_cond5 i = 1#1) (arg1 : Memref sig .tc .vmem S128x3584 .bf16) (harg1 : arg1.IsWhole) (arg2 : Memref sig .tc .vmem S3840x128 .bf16) (harg2 : arg2.IsWhole) (arg3 : Memref sig .tc .vmem S1x3584 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x3584 .f32) (harg7 : arg7.IsWhole) (arg8 : Memref sig .tc .vmem S3840x512 .fp8e4m3) (harg8 : arg8.IsWhole) (arg9 : Memref sig .tc .vmem S3584x512 .fp8e4m3) (harg9 : arg9.IsWhole) (arg10 : Memref sig .tc .vmem S3584x512 .fp8e4m3) (harg10 : arg10.IsWhole) (arg11 : Memref sig .tc .vmem S512x3584 .fp8e4m3) (harg11 : arg11.IsWhole) (arg12 : Memref sig .tc .vmem S128x3584 .bf16) (harg12 : arg12.IsWhole) (arg13 : Memref sig .tc .vmem S128x512 .bf16) (harg13 : arg13.IsWhole) (arg14 : Memref sig .tc .vmem S128x3584 .bf16) (harg14 : arg14.IsWhole) (arg15 : Memref sig .tc .vmem S128x3840 .bf16) (harg15 : arg15.IsWhole) (arg16 : Memref sig .tc .vmem S128x3584 .bf16) (harg16 : arg16.IsWhole) (arg17 : Memref sig .tc .vmem S128x3584 .f32) (harg17 : arg17.IsWhole)
    (x1 : Vec F S128x3584 .bf16) (x2 : Vec F S3840x128 .bf16) (x3 : Vec F S1x3584 .f32) (x4 : Vec F S1x512 .f32) (x5 : Vec F S1x512 .f32) (x6 : Vec F S1x512 .f32) (x7 : Vec F S1x3584 .f32) (x8 : Vec F S3840x512 .fp8e4m3) (x9 : Vec F S3584x512 .fp8e4m3) (x10 : Vec F S3584x512 .fp8e4m3) (x11 : Vec F S512x3584 .fp8e4m3) (x12 : Vec F S128x3584 .bf16) (x13 : Vec F S128x512 .bf16) (x14 : Vec F S128x3584 .bf16) (x15 : Vec F S128x3840 .bf16) (x16 : Vec F S128x3584 .bf16) (x17 : Vec F S128x3584 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (VecWindow.put x12 (k0_off1 i) S128x512.size (k0_pay2 (k0_pay1 x2) x8 x4 (VecWindow.window x1 (k0_off1 i) S128x512.size (k0_off1_inb i h2)))) ∗ owns (c : Thread nD τ) arg13 fullShare x13 ∗ owns (c : Thread nD τ) arg14 fullShare x14 ∗ owns (c : Thread nD τ) arg15 fullShare (k0_pay1 x2) ∗ owns (c : Thread nD τ) arg16 fullShare x16 ∗ owns (c : Thread nD τ) arg17 fullShare x17) -∗ K ⟨⟩))
      ⊢ wp frame (wpE (defs₀ (F := F)) Variants.none c none) E (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_mlp_eq_skeleton]; unfold cc0_mlp_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  subst hf1 hf2 hf3 hf4 hf5 hf6 hf7 hf8 hf9 hf10 hf11 hf12 hf13 hf14 hf15 hf16 hf17
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    sl_unfold_words
    refine (View.read_writes_cons_put _ _ _ _ _ rfl).trans ?_
    simp (proj := false) only [View.readAt_full, View.readCov_full, View.writes_nil]
    rfl
  isplitl [H13]
  · iexists f13; isplitr; · ipureintro; rfl
    iexact H13
  isplitl [H14]
  · iexists f14; isplitr; · ipureintro; rfl
    iexact H14
  isplitl [H15]
  · iexists _; isplitr
    swap; · iexact H15
    ipureintro
    sl_unfold_words
    refine (View.read_writes_full _ _ _ _ _).trans ?_
    simp (proj := false) only [View.readAt_full, View.readCov_full, View.writes_nil]
  isplitl [H16]
  · iexists f16; isplitr; · ipureintro; rfl
    iexact H16
  iexists f17; isplitr; · ipureintro; rfl
  iexact H17

/-- Points 1 … 5: a further block of the residual sum. -/
theorem body_mid (c : Dev nD) (E : Set ℕ) (i : grid0.Coords) (h1 : ¬ (Scalar.cmpi .ne (Scalar.extui (Scalar.cmpi .eq (BitVec.ofNat 32 (i 0).val) 0#32) : BitVec 32) 0#32 : BitVec 1) = 1#1) (h2 : k0_cond2 i = 1#1) (h3 : ¬ (Scalar.cmpi .ne (Scalar.extui (Scalar.cmpi .eq (BitVec.ofNat 32 (i 0).val) 6#32) : BitVec 32) 0#32 : BitVec 1) = 1#1) (h4 : ¬ k0_cond4 i = 1#1) (h5 : ¬ k0_cond5 i = 1#1) (arg1 : Memref sig .tc .vmem S128x3584 .bf16) (harg1 : arg1.IsWhole) (arg2 : Memref sig .tc .vmem S3840x128 .bf16) (harg2 : arg2.IsWhole) (arg3 : Memref sig .tc .vmem S1x3584 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x3584 .f32) (harg7 : arg7.IsWhole) (arg8 : Memref sig .tc .vmem S3840x512 .fp8e4m3) (harg8 : arg8.IsWhole) (arg9 : Memref sig .tc .vmem S3584x512 .fp8e4m3) (harg9 : arg9.IsWhole) (arg10 : Memref sig .tc .vmem S3584x512 .fp8e4m3) (harg10 : arg10.IsWhole) (arg11 : Memref sig .tc .vmem S512x3584 .fp8e4m3) (harg11 : arg11.IsWhole) (arg12 : Memref sig .tc .vmem S128x3584 .bf16) (harg12 : arg12.IsWhole) (arg13 : Memref sig .tc .vmem S128x512 .bf16) (harg13 : arg13.IsWhole) (arg14 : Memref sig .tc .vmem S128x3584 .bf16) (harg14 : arg14.IsWhole) (arg15 : Memref sig .tc .vmem S128x3840 .bf16) (harg15 : arg15.IsWhole) (arg16 : Memref sig .tc .vmem S128x3584 .bf16) (harg16 : arg16.IsWhole) (arg17 : Memref sig .tc .vmem S128x3584 .f32) (harg17 : arg17.IsWhole)
    (x1 : Vec F S128x3584 .bf16) (x2 : Vec F S3840x128 .bf16) (x3 : Vec F S1x3584 .f32) (x4 : Vec F S1x512 .f32) (x5 : Vec F S1x512 .f32) (x6 : Vec F S1x512 .f32) (x7 : Vec F S1x3584 .f32) (x8 : Vec F S3840x512 .fp8e4m3) (x9 : Vec F S3584x512 .fp8e4m3) (x10 : Vec F S3584x512 .fp8e4m3) (x11 : Vec F S512x3584 .fp8e4m3) (x12 : Vec F S128x3584 .bf16) (x13 : Vec F S128x512 .bf16) (x14 : Vec F S128x3584 .bf16) (x15 : Vec F S128x3840 .bf16) (x16 : Vec F S128x3584 .bf16) (x17 : Vec F S128x3584 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (VecWindow.put x12 (k0_off1 i) S128x512.size (k0_pay2 x15 x8 x4 (VecWindow.window x1 (k0_off1 i) S128x512.size (k0_off1_inb i h2)))) ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17) -∗ K ⟨⟩))
      ⊢ wp frame (wpE (defs₀ (F := F)) Variants.none c none) E (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_mlp_eq_skeleton]; unfold cc0_mlp_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  subst hf1 hf2 hf3 hf4 hf5 hf6 hf7 hf8 hf9 hf10 hf11 hf12 hf13 hf14 hf15 hf16 hf17
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    sl_unfold_words
    refine (View.read_writes_cons_put _ _ _ _ _ rfl).trans ?_
    simp (proj := false) only [View.readAt_full, View.readCov_full, View.writes_nil]
    rfl
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  iexists f17; isplitr; · ipureintro; rfl
  iexact H17

/-- Point 6: the last block of the residual sum, then the normalised rows and the cleared sum of the down product. -/
theorem body_turn (c : Dev nD) (E : Set ℕ) (i : grid0.Coords) (h1 : ¬ (Scalar.cmpi .ne (Scalar.extui (Scalar.cmpi .eq (BitVec.ofNat 32 (i 0).val) 0#32) : BitVec 32) 0#32 : BitVec 1) = 1#1) (h2 : k0_cond2 i = 1#1) (h3 : (Scalar.cmpi .ne (Scalar.extui (Scalar.cmpi .eq (BitVec.ofNat 32 (i 0).val) 6#32) : BitVec 32) 0#32 : BitVec 1) = 1#1) (h4 : ¬ k0_cond4 i = 1#1) (h5 : ¬ k0_cond5 i = 1#1) (arg1 : Memref sig .tc .vmem S128x3584 .bf16) (harg1 : arg1.IsWhole) (arg2 : Memref sig .tc .vmem S3840x128 .bf16) (harg2 : arg2.IsWhole) (arg3 : Memref sig .tc .vmem S1x3584 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x3584 .f32) (harg7 : arg7.IsWhole) (arg8 : Memref sig .tc .vmem S3840x512 .fp8e4m3) (harg8 : arg8.IsWhole) (arg9 : Memref sig .tc .vmem S3584x512 .fp8e4m3) (harg9 : arg9.IsWhole) (arg10 : Memref sig .tc .vmem S3584x512 .fp8e4m3) (harg10 : arg10.IsWhole) (arg11 : Memref sig .tc .vmem S512x3584 .fp8e4m3) (harg11 : arg11.IsWhole) (arg12 : Memref sig .tc .vmem S128x3584 .bf16) (harg12 : arg12.IsWhole) (arg13 : Memref sig .tc .vmem S128x512 .bf16) (harg13 : arg13.IsWhole) (arg14 : Memref sig .tc .vmem S128x3584 .bf16) (harg14 : arg14.IsWhole) (arg15 : Memref sig .tc .vmem S128x3840 .bf16) (harg15 : arg15.IsWhole) (arg16 : Memref sig .tc .vmem S128x3584 .bf16) (harg16 : arg16.IsWhole) (arg17 : Memref sig .tc .vmem S128x3584 .f32) (harg17 : arg17.IsWhole)
    (x1 : Vec F S128x3584 .bf16) (x2 : Vec F S3840x128 .bf16) (x3 : Vec F S1x3584 .f32) (x4 : Vec F S1x512 .f32) (x5 : Vec F S1x512 .f32) (x6 : Vec F S1x512 .f32) (x7 : Vec F S1x3584 .f32) (x8 : Vec F S3840x512 .fp8e4m3) (x9 : Vec F S3584x512 .fp8e4m3) (x10 : Vec F S3584x512 .fp8e4m3) (x11 : Vec F S512x3584 .fp8e4m3) (x12 : Vec F S128x3584 .bf16) (x13 : Vec F S128x512 .bf16) (x14 : Vec F S128x3584 .bf16) (x15 : Vec F S128x3840 .bf16) (x16 : Vec F S128x3584 .bf16) (x17 : Vec F S128x3584 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (VecWindow.put x12 (k0_off1 i) S128x512.size (k0_pay2 x15 x8 x4 (VecWindow.window x1 (k0_off1 i) S128x512.size (k0_off1_inb i h2)))) ∗ owns (c : Thread nD τ) arg13 fullShare x13 ∗ owns (c : Thread nD τ) arg14 fullShare x14 ∗ owns (c : Thread nD τ) arg15 fullShare x15 ∗ owns (c : Thread nD τ) arg16 fullShare (k0_pay3 (VecWindow.put x12 (k0_off1 i) S128x512.size (k0_pay2 x15 x8 x4 (VecWindow.window x1 (k0_off1 i) S128x512.size (k0_off1_inb i h2)))) x3) ∗ owns (c : Thread nD τ) arg17 fullShare (k0_pay4 (F := F))) -∗ K ⟨⟩))
      ⊢ wp frame (wpE (defs₀ (F := F)) Variants.none c none) E (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_mlp_eq_skeleton]; unfold cc0_mlp_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  subst hf1 hf2 hf3 hf4 hf5 hf6 hf7 hf8 hf9 hf10 hf11 hf12 hf13 hf14 hf15 hf16 hf17
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    sl_unfold_words
    refine (View.read_writes_cons_put _ _ _ _ _ rfl).trans ?_
    simp (proj := false) only [View.readAt_full, View.readCov_full, View.writes_nil]
    rfl
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    sl_unfold_words
    refine (View.read_writes_full _ _ _ _ _).trans ?_
    simp (proj := false) only [View.readAt_full, View.readCov_full, View.writes_nil]
    exact congrArg (fun X => k0_pay3 X (View.read (Elt F) arg3.view f3)) (View.read_writes_cons_put _ _ _ _ _ rfl)
  iexists _; isplitr
  swap; · iexact H17
  ipureintro
  sl_unfold_words
  exact View.read_writes_full _ _ _ _ _

/-- Points 7 … 33: a block of the activation, and its part of the down product added to the sum. -/
theorem body_ff (c : Dev nD) (E : Set ℕ) (i : grid0.Coords) (h1 : ¬ (Scalar.cmpi .ne (Scalar.extui (Scalar.cmpi .eq (BitVec.ofNat 32 (i 0).val) 0#32) : BitVec 32) 0#32 : BitVec 1) = 1#1) (h2 : ¬ k0_cond2 i = 1#1) (h3 : ¬ (Scalar.cmpi .ne (Scalar.extui (Scalar.cmpi .eq (BitVec.ofNat 32 (i 0).val) 6#32) : BitVec 32) 0#32 : BitVec 1) = 1#1) (h4 : k0_cond4 i = 1#1) (h5 : ¬ k0_cond5 i = 1#1) (arg1 : Memref sig .tc .vmem S128x3584 .bf16) (harg1 : arg1.IsWhole) (arg2 : Memref sig .tc .vmem S3840x128 .bf16) (harg2 : arg2.IsWhole) (arg3 : Memref sig .tc .vmem S1x3584 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x3584 .f32) (harg7 : arg7.IsWhole) (arg8 : Memref sig .tc .vmem S3840x512 .fp8e4m3) (harg8 : arg8.IsWhole) (arg9 : Memref sig .tc .vmem S3584x512 .fp8e4m3) (harg9 : arg9.IsWhole) (arg10 : Memref sig .tc .vmem S3584x512 .fp8e4m3) (harg10 : arg10.IsWhole) (arg11 : Memref sig .tc .vmem S512x3584 .fp8e4m3) (harg11 : arg11.IsWhole) (arg12 : Memref sig .tc .vmem S128x3584 .bf16) (harg12 : arg12.IsWhole) (arg13 : Memref sig .tc .vmem S128x512 .bf16) (harg13 : arg13.IsWhole) (arg14 : Memref sig .tc .vmem S128x3584 .bf16) (harg14 : arg14.IsWhole) (arg15 : Memref sig .tc .vmem S128x3840 .bf16) (harg15 : arg15.IsWhole) (arg16 : Memref sig .tc .vmem S128x3584 .bf16) (harg16 : arg16.IsWhole) (arg17 : Memref sig .tc .vmem S128x3584 .f32) (harg17 : arg17.IsWhole)
    (x1 : Vec F S128x3584 .bf16) (x2 : Vec F S3840x128 .bf16) (x3 : Vec F S1x3584 .f32) (x4 : Vec F S1x512 .f32) (x5 : Vec F S1x512 .f32) (x6 : Vec F S1x512 .f32) (x7 : Vec F S1x3584 .f32) (x8 : Vec F S3840x512 .fp8e4m3) (x9 : Vec F S3584x512 .fp8e4m3) (x10 : Vec F S3584x512 .fp8e4m3) (x11 : Vec F S512x3584 .fp8e4m3) (x12 : Vec F S128x3584 .bf16) (x13 : Vec F S128x512 .bf16) (x14 : Vec F S128x3584 .bf16) (x15 : Vec F S128x3840 .bf16) (x16 : Vec F S128x3584 .bf16) (x17 : Vec F S128x3584 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (k0_pay5 x16 x9 x5 x16 x10 x6) ∗ owns (c : Thread nD τ) arg14 fullShare x14 ∗ owns (c : Thread nD τ) arg15 fullShare x15 ∗ owns (c : Thread nD τ) arg16 fullShare x16 ∗ owns (c : Thread nD τ) arg17 fullShare (k0_pay6 x16 x9 x5 x16 x10 x6 x17 x11)) -∗ K ⟨⟩))
      ⊢ wp frame (wpE (defs₀ (F := F)) Variants.none c none) E (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_mlp_eq_skeleton]; unfold cc0_mlp_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  subst hf1 hf2 hf3 hf4 hf5 hf6 hf7 hf8 hf9 hf10 hf11 hf12 hf13 hf14 hf15 hf16 hf17
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    sl_unfold_words
    refine (View.read_writes_full _ _ _ _ _).trans ?_
    simp (proj := false) only [View.readAt_full, View.readCov_full, View.writes_nil]
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  iexists _; isplitr
  swap; · iexact H17
  ipureintro
  sl_unfold_words
  refine (View.read_writes_full _ _ _ _ _).trans ?_
  simp (proj := false) only [View.readAt_full, View.readCov_full, View.writes_nil]

/-- Point 34: as before, and then the result from the residual sum and the whole down product. -/
theorem body_last (c : Dev nD) (E : Set ℕ) (i : grid0.Coords) (h1 : ¬ (Scalar.cmpi .ne (Scalar.extui (Scalar.cmpi .eq (BitVec.ofNat 32 (i 0).val) 0#32) : BitVec 32) 0#32 : BitVec 1) = 1#1) (h2 : ¬ k0_cond2 i = 1#1) (h3 : ¬ (Scalar.cmpi .ne (Scalar.extui (Scalar.cmpi .eq (BitVec.ofNat 32 (i 0).val) 6#32) : BitVec 32) 0#32 : BitVec 1) = 1#1) (h4 : k0_cond4 i = 1#1) (h5 : k0_cond5 i = 1#1) (arg1 : Memref sig .tc .vmem S128x3584 .bf16) (harg1 : arg1.IsWhole) (arg2 : Memref sig .tc .vmem S3840x128 .bf16) (harg2 : arg2.IsWhole) (arg3 : Memref sig .tc .vmem S1x3584 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x3584 .f32) (harg7 : arg7.IsWhole) (arg8 : Memref sig .tc .vmem S3840x512 .fp8e4m3) (harg8 : arg8.IsWhole) (arg9 : Memref sig .tc .vmem S3584x512 .fp8e4m3) (harg9 : arg9.IsWhole) (arg10 : Memref sig .tc .vmem S3584x512 .fp8e4m3) (harg10 : arg10.IsWhole) (arg11 : Memref sig .tc .vmem S512x3584 .fp8e4m3) (harg11 : arg11.IsWhole) (arg12 : Memref sig .tc .vmem S128x3584 .bf16) (harg12 : arg12.IsWhole) (arg13 : Memref sig .tc .vmem S128x512 .bf16) (harg13 : arg13.IsWhole) (arg14 : Memref sig .tc .vmem S128x3584 .bf16) (harg14 : arg14.IsWhole) (arg15 : Memref sig .tc .vmem S128x3840 .bf16) (harg15 : arg15.IsWhole) (arg16 : Memref sig .tc .vmem S128x3584 .bf16) (harg16 : arg16.IsWhole) (arg17 : Memref sig .tc .vmem S128x3584 .f32) (harg17 : arg17.IsWhole)
    (x1 : Vec F S128x3584 .bf16) (x2 : Vec F S3840x128 .bf16) (x3 : Vec F S1x3584 .f32) (x4 : Vec F S1x512 .f32) (x5 : Vec F S1x512 .f32) (x6 : Vec F S1x512 .f32) (x7 : Vec F S1x3584 .f32) (x8 : Vec F S3840x512 .fp8e4m3) (x9 : Vec F S3584x512 .fp8e4m3) (x10 : Vec F S3584x512 .fp8e4m3) (x11 : Vec F S512x3584 .fp8e4m3) (x12 : Vec F S128x3584 .bf16) (x13 : Vec F S128x512 .bf16) (x14 : Vec F S128x3584 .bf16) (x15 : Vec F S128x3840 .bf16) (x16 : Vec F S128x3584 .bf16) (x17 : Vec F S128x3584 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (k0_pay5 x16 x9 x5 x16 x10 x6) ∗ owns (c : Thread nD τ) arg14 fullShare (k0_pay7 x12 (k0_pay6 x16 x9 x5 x16 x10 x6 x17 x11) x7) ∗ owns (c : Thread nD τ) arg15 fullShare x15 ∗ owns (c : Thread nD τ) arg16 fullShare x16 ∗ owns (c : Thread nD τ) arg17 fullShare (k0_pay6 x16 x9 x5 x16 x10 x6 x17 x11)) -∗ K ⟨⟩))
      ⊢ wp frame (wpE (defs₀ (F := F)) Variants.none c none) E (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_mlp_eq_skeleton]; unfold cc0_mlp_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  subst hf1 hf2 hf3 hf4 hf5 hf6 hf7 hf8 hf9 hf10 hf11 hf12 hf13 hf14 hf15 hf16 hf17
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    sl_unfold_words
    refine (View.read_writes_full _ _ _ _ _).trans ?_
    simp (proj := false) only [View.readAt_full, View.readCov_full, View.writes_nil]
  isplitl [H14]
  · iexists _; isplitr
    swap; · iexact H14
    ipureintro
    sl_unfold_words
    refine (View.read_writes_full _ _ _ _ _).trans ?_
    simp (proj := false) only [View.readAt_full, View.readCov_full, View.writes_nil]
  isplitl [H15]
  · iexists f15; isplitr; · ipureintro; rfl
    iexact H15
  isplitl [H16]
  · iexists f16; isplitr; · ipureintro; rfl
    iexact H16
  iexists _; isplitr
  swap; · iexact H17
  ipureintro
  sl_unfold_words
  refine (View.read_writes_full _ _ _ _ _).trans ?_
  simp (proj := false) only [View.readAt_full, View.readCov_full, View.writes_nil]

end Cert.KernelIdeal.Hand

end
-- ==== Proof.KIInv.lean ====
/- What the kernel keeps from point to point: the blocks of the residual sum written so far, the transposed attention
   rows, the normalised rows, and the sum of the parts of the down product. -/
module

public import proofs.«01_k».proof.Proof.Gen.KernelIdeal.Frame
public import proofs.«01_k».proof.Proof.Gen.KernelIdeal.Skeleton
public import Idealize.ShloMosaic.Lib.VecWindow
public import Idealize.ShloMosaic.Lib.Pointwise.Index
public import Idealize.ShloMosaic.Lib.Pipeline.DatRel
public import proofs.«01_k».proof.Proof.KIBody

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The grid in plain numbers -/

/-- Point number `n` of the grid. -/
def pt (n : ℕ) (h : n < 35) : Fin cfg0.N := ⟨n, lt_of_lt_of_eq h N_0.symm⟩

theorem zero_lt : 0 < 35 := by decide
theorem six_lt : 6 < 35 := by decide
theorem last_lt : 34 < 35 := by decide

theorem lt_N (t : Fin cfg0.N) : t.val < 35 := lt_of_lt_of_eq t.isLt N_0

theorem cond1_iff : ∀ t : Fin cfg0.N, (Scalar.cmpi .ne (Scalar.extui (Scalar.cmpi .eq (BitVec.ofNat 32 (grid0.coords t 0).val) 0#32) : BitVec 32) 0#32 : BitVec 1) = 1#1 ↔ t.val = 0 := by decide +kernel
theorem cond2_iff : ∀ t : Fin cfg0.N, k0_cond2 (grid0.coords t) = 1#1 ↔ t.val < 7 := by decide +kernel
theorem cond3_iff : ∀ t : Fin cfg0.N, (Scalar.cmpi .ne (Scalar.extui (Scalar.cmpi .eq (BitVec.ofNat 32 (grid0.coords t 0).val) 6#32) : BitVec 32) 0#32 : BitVec 1) = 1#1 ↔ t.val = 6 := by decide +kernel
theorem cond4_iff : ∀ t : Fin cfg0.N, k0_cond4 (grid0.coords t) = 1#1 ↔ 7 ≤ t.val := by decide +kernel
theorem cond5_iff : ∀ t : Fin cfg0.N, k0_cond5 (grid0.coords t) = 1#1 ↔ t.val = 34 := by decide +kernel

/-- The columns of a point's block of the residual sum begin at 512 times its number. -/
theorem off1_eq : ∀ t : Fin cfg0.N, k0_off1 (grid0.coords t) = ![0, 512 * t.val] := by decide +kernel

/-! ## What is computed -/

/-- The attention rows, transposed. -/
def attT (c : Dev nD) : Vec F S128x3840 .bf16 := k0_pay1 (iblk m c 1 (pt 0 zero_lt))

/-- The block's columns of the kernel's first operand. -/
def xWin (c : Dev nD) (n : ℕ) (h : n < 7) : Vec F S128x512 .bf16 :=
  VecWindow.window (iblk m c 0 (pt n (by omega)) : Vec F S128x3584 .bf16) (k0_off1 (grid0.coords (pt n (by omega)))) S128x512.size
    (k0_off1_inb _ ((cond2_iff (pt n (by omega))).mpr h))

/-- Block `n` of the residual sum. -/
def hBlk (c : Dev nD) (n : ℕ) (h : n < 7) : Vec F S128x512 .bf16 :=
  k0_pay2 (attT m c) (iblk m c 7 (pt n (by omega))) (iblk m c 3 (pt n (by omega))) (xWin m c n h)

/-- The residual sum: its seven blocks side by side. -/
def hAll (c : Dev nD) : Vec F S128x3584 .bf16 := fun j =>
  hBlk m c ((j 1).val / 512) (by have h : (j 1).val < 3584 := (j 1).isLt; omega)
    (ix2 (j 0) ⟨(j 1).val % 512, Nat.mod_lt _ (by omega)⟩)

/-- The normalised rows. -/
def h2 (c : Dev nD) : Vec F S128x3584 .bf16 := k0_pay3 (hAll m c) (iblk m c 2 (pt 6 six_lt))

/-- The block of the activation computed at point `t`. -/
def actBlk (c : Dev nD) (t : Fin cfg0.N) : Vec F S128x512 .bf16 :=
  k0_pay5 (h2 m c) (iblk m c 8 t) (iblk m c 4 t) (h2 m c) (iblk m c 9 t) (iblk m c 5 t)

/-- The sum of the first `k` parts of the down product. -/
def acc (c : Dev nD) : ℕ → Vec F S128x3584 .f32
  | 0 => k0_pay4
  | k + 1 => if h : k + 7 < 35 then
      k0_pay6 (h2 m c) (iblk m c 8 (pt (k + 7) h)) (iblk m c 4 (pt (k + 7) h)) (h2 m c) (iblk m c 9 (pt (k + 7) h)) (iblk m c 5 (pt (k + 7) h))
        (acc c k) (iblk m c 10 (pt (k + 7) h))
    else acc c k

/-- The result. -/
def outAll (c : Dev nD) : Vec F S128x3584 .bf16 := k0_pay7 (hAll m c) (acc m c 28) (iblk m c 6 (pt 34 last_lt))

/-! ## What holds between points -/

/-- The first `k` blocks of `X` are those of the residual sum. -/
def Filled (c : Dev nD) (k : ℕ) (X : Vec F S128x3584 .bf16) : Prop :=
  ∀ j : S128x3584.Idx, (j 1).val < 512 * k → X j = hAll m c j

/-- What the three kept buffers hold before point `n`. -/
def Kept (c : Dev nD) (n : ℕ) (X15 : Vec F S128x3840 .bf16) (X16 : Vec F S128x3584 .bf16) (X17 : Vec F S128x3584 .f32) : Prop :=
  (1 ≤ n → X15 = attT m c) ∧ (7 ≤ n → X16 = h2 m c ∧ X17 = acc m c (n - 7))

/-- The block put at point `t` extends the part filled by one block. -/
theorem filled_put (c : Dev nD) (t : Fin cfg0.N) (ht : t.val < 7) (X : Vec F S128x3584 .bf16) (hX : Filled m c t.val X) :
    Filled m c (t.val + 1) (VecWindow.put X (k0_off1 (grid0.coords t)) S128x512.size (hBlk m c t.val ht)) := by
  intro j hj
  unfold VecWindow.put
  rw [off1_eq t]
  split
  · next h =>
    have h1 := h 1
    have e : (![0, 512 * t.val] : Fin 2 → ℕ) 1 = 512 * t.val := rfl
    rw [e] at h1
    unfold hAll
    have hq : (j 1).val / 512 = t.val := by omega
    have key : ∀ (q : ℕ) (hq' : q < 7) (y : S128x512.Idx) (hqq : q = t.val) (r : Fin 512), r.val = (y 1).val →
        hBlk m c t.val ht y = hBlk m c q hq' (ix2 (y 0) r) := by
      intro q hq' y hqq r hr
      subst hqq
      congr 1
      funext a
      match a with
      | ⟨0, _⟩ => rfl
      | ⟨1, _⟩ => exact Fin.ext hr.symm
    refine (key _ (by omega) _ hq ⟨(j 1).val % 512, Nat.mod_lt _ (by omega)⟩ ?_).trans ?_
    · show (j 1).val % 512 = (j 1).val - 512 * t.val
      omega
    · congr 1
  · next h =>
    refine hX j ?_
    by_contra hc
    refine h fun a => ?_
    match a with
    | ⟨0, _⟩ => exact ⟨Nat.zero_le _, by have h0 : (j 0).val < 128 := (j 0).isLt; show (j 0).val < 0 + 128; omega⟩
    | ⟨1, _⟩ =>
      refine ⟨?_, ?_⟩
      · show 512 * t.val ≤ (j 1).val
        omega
      · show (j 1).val < 512 * t.val + 512
        omega

/-- With all seven blocks the residual sum is complete. -/
theorem eq_of_filled (c : Dev nD) (k : ℕ) (hk : 7 ≤ k) (X : Vec F S128x3584 .bf16) (hX : Filled m c k X) : X = hAll m c :=
  funext fun j => hX j (by have h : (j 1).val < 3584 := (j 1).isLt; omega)

theorem Filled.mono (c : Dev nD) {k k' : ℕ} (h : k' ≤ k) {X : Vec F S128x3584 .bf16} (hX : Filled m c k X) : Filled m c k' X :=
  fun j hj => hX j (by omega)

/-- One more part of the down product. -/
theorem acc_step (c : Dev nD) (t : Fin cfg0.N) (ht : 7 ≤ t.val) :
    k0_pay6 (h2 m c) (iblk m c 8 t) (iblk m c 4 t) (h2 m c) (iblk m c 9 t) (iblk m c 5 t) (acc m c (t.val - 7)) (iblk m c 10 t)
      = acc m c (t.val + 1 - 7) := by
  obtain ⟨k, hk⟩ : ∃ k, t.val = k + 7 := ⟨t.val - 7, by omega⟩
  have hlt : k + 7 < 35 := by have := lt_N t; omega
  obtain rfl : t = pt (k + 7) hlt := Fin.ext hk
  have e1 : (pt (k + 7) hlt).val - 7 = k := by show k + 7 - 7 = k; omega
  have e2 : (pt (k + 7) hlt).val + 1 - 7 = k + 1 := by show k + 7 + 1 - 7 = k + 1; omega
  rw [e1, e2]
  rw [acc, dif_pos hlt]

end Cert.KernelIdeal.Hand

end
-- ==== Proof.KIData.lean ====
/- The data of the pipeline: what each window holds, what the body may leave in the results' buffers, and what is kept
   between points; and the body's step at every point. -/
module

public import proofs.«01_k».proof.Proof.Gen.KernelIdeal.Frame
public import proofs.«01_k».proof.Proof.Gen.KernelIdeal.Skeleton
public import Idealize.ShloMosaic.Lib.VecWindow
public import Idealize.ShloMosaic.Lib.Pointwise.Index
public import Idealize.ShloMosaic.Lib.Pipeline.DatRel
public import proofs.«01_k».proof.Proof.KIInv

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-- What holds before point `n`: the kept buffers, and the generator register at anything. -/
def PhiS (c : Dev nD) (n : ℕ) (_ : n ≤ cfg0.N) : sProp 𝕄 :=
  iprop(∃ (X15 : Vec F S128x3840 .bf16) (X16 : Vec F S128x3584 .bf16) (X17 : Vec F S128x3584 .f32), ⌜Kept m c n X15 X16 X17⌝
    ∗ owns (c : Thread nD τ) (Memref.whole cc0_scratch0) fullShare X15
    ∗ owns (c : Thread nD τ) (Memref.whole cc0_scratch1) fullShare X16
    ∗ owns (c : Thread nD τ) (Memref.whole cc0_scratch2) fullShare X17
    ∗ ∃ r, prngReg c r)

/-- The pipeline's data on core `c`: every input's buffer holds its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => hAll m c
    | ⟨12, _⟩ => actBlk m c t
    | ⟨13, _⟩ => outAll m c
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val (le_of_lt t.isLt) := by
  dsimp only [dats]; exact Pipeline.Dat.Φ_castSucc (PhiS m c) t
theorem Phi_succ (c : Dev nD) (t : Fin cfg0.N) : (dats m 0 c).Φ t.succ = PhiS m c (t.val + 1) t.isLt := by
  dsimp only [dats]; rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- The results' windows, held to relations. -/
def fgt (w : Fin cfg0.W) : Bool := decide (11 ≤ w.val)

/-- What the body may leave in a result's buffer after point `t`. -/
def Rl (c : Dev nD) (w : Fin cfg0.W) (t : Fin cfg0.N) : ((cfg0.win w).block.Idx → Elt F (cfg0.win w).elt) → Prop :=
  match w with
  | ⟨11, _⟩ => fun X => Filled m c (t.val + 1) X
  | ⟨12, _⟩ => fun X => 7 ≤ t.val → X = actBlk m c t
  | ⟨13, _⟩ => fun X => t.val = 34 → X = outAll m c
  | _ => fun _ => True

/-- The pipeline's relational data. -/
def rdats (c : Dev nD) : RDat τ (Elt F) Unit ℕ (UR sig nD τ) ℕ cfg0 c := (dats m 0 c).toRRel fgt (Rl m c)

/-- Before point `t` the blocks of the residual sum below number `t` are in place. -/
theorem finds11 (c : Dev nD) (t : Fin cfg0.N) (Y : Vec F S128x3584 .bf16) (h : (rdats m c).Finds 11 t Y) : Filled m c t.val Y := by
  by_cases ht : t.val = 0
  · intro j hj
    omega
  · rcases (RDat.finds_of_pos (rd := rdats m c) (w := 11) (t := t) rfl ht Y).mp h with hf | hl
    · exact absurd ((flush0_11 _).mp hf) (by have := lt_N t; show ¬ (t.val - 1) % 35 = 34; omega)
    · have h' := (dats m 0 c).toRRel_leaves (fgt := fgt) (Rl := Rl m c) (w := 11) rfl hl
      have h'' : Filled m c (t.val - 1 + 1) Y := h'
      exact h''.mono m c (by omega)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ Y, ⌜(rdats m c).Finds 11 t Y⌝ ∗ owns (c : Thread nD τ) (st0_11 t) fullShare Y)
    ∗ (∃ Y, ⌜(rdats m c).Finds 12 t Y⌝ ∗ owns (c : Thread nD τ) (st0_12 t) fullShare Y)
    ∗ (∃ Y, ⌜(rdats m c).Finds 13 t Y⌝ ∗ owns (c : Thread nD τ) (st0_13 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ (∃ X, ⌜Rl m c 11 t X⌝ ∗ owns (c : Thread nD τ) (st0_11 t) fullShare X)
    ∗ (∃ X, ⌜Rl m c 12 t X⌝ ∗ owns (c : Thread nD τ) (st0_12 t) fullShare X)
    ∗ (∃ X, ⌜Rl m c 13 t X⌝ ∗ owns (c : Thread nD τ) (st0_13 t) fullShare X))

/-- The first point: the attention rows are transposed and block 0 of the residual sum is written. -/
theorem step_first (c : Dev nD) (t : Fin cfg0.N) (ht : t.val = 0) :
    bodyPre m c t ⊢ wp frame (wpE (defs₀ (F := F)) Variants.none c none) Set.univ (bodyAt0 t) (fun _ => bodyPost m c t) := by
  have hN := lt_N t
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl, Phi_castSucc, Phi_succ,
    after0_0, after0_1, after0_2, after0_3, after0_4, after0_5, after0_6, after0_7, after0_8, after0_9, after0_10]
  unfold PhiS
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%Y11, %hY11, H11⟩, ⟨%Y12, %hY12, H12⟩, ⟨%Y13, %hY13, H13⟩⟩
  icases HΦ with ⟨%X15, %X16, %X17, %hK, K15, K16, K17, Hg⟩
  have hF : Filled m c t.val Y11 := finds11 m c t Y11 hY11
  obtain rfl : t = pt 0 zero_lt := Fin.ext ht
  iapply (body_first c Set.univ (grid0.coords (pt 0 zero_lt)) ((cond1_iff (pt 0 zero_lt)).mpr (by decide)) ((cond2_iff (pt 0 zero_lt)).mpr (by decide)) (fun hc => absurd ((cond3_iff (pt 0 zero_lt)).mp hc) (by decide)) (fun hc => absurd ((cond4_iff (pt 0 zero_lt)).mp hc) (by decide)) (fun hc => absurd ((cond5_iff (pt 0 zero_lt)).mp hc) (by decide)) _ _ _ _ _ _ _ _ _ _ _ _ _ _ _ _ _ _ _ _ _ _ _ _ _ _ _ _ (Memref.whole cc0_scratch0) _ (Memref.whole cc0_scratch1) _ (Memref.whole cc0_scratch2) _
    (iblk m c 0 (pt 0 zero_lt)) (iblk m c 1 (pt 0 zero_lt)) (iblk m c 2 (pt 0 zero_lt)) (iblk m c 3 (pt 0 zero_lt)) (iblk m c 4 (pt 0 zero_lt)) (iblk m c 5 (pt 0 zero_lt)) (iblk m c 6 (pt 0 zero_lt)) (iblk m c 7 (pt 0 zero_lt)) (iblk m c 8 (pt 0 zero_lt)) (iblk m c 9 (pt 0 zero_lt)) (iblk m c 10 (pt 0 zero_lt)) Y11 Y12 Y13 X15 X16 X17 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [K15]; · iexact K15
  isplitl [K16]; · iexact K16
  isplitl [K17]; · iexact K17
  iintro ⟨H0, H1, H2, H3, H4, H5, H6, H7, H8, H9, H10, H11, H12, H13, K15, K16, K17⟩
  isplitl [K15 K16 K17 Hg]
  · iexists (attT m c); iexists X16; iexists X17
    isplitr [K15 K16 K17 Hg]
    · ipureintro
      exact ⟨fun _ => rfl, fun hc => absurd hc (by show ¬ 7 ≤ 0 + 1; omega)⟩
    isplitl [K15]; · iexact K15
    isplitl [K16]; · iexact K16
    isplitl [K17]; · iexact K17
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iexists _
    isplitr [H11]
    · ipureintro
      exact filled_put m c (pt 0 zero_lt) (by show 0 < 7; omega) Y11 hF
    iexact H11
  isplitl [H12]
  · iexists Y12
    isplitr [H12]
    · ipureintro
      show 7 ≤ (pt 0 zero_lt).val → _
      exact fun hc => absurd hc (by omega)
    iexact H12
  iexists Y13
  isplitr [H13]
  · ipureintro
    show (pt 0 zero_lt).val = 34 → _
    exact fun hc => absurd hc (by omega)
  iexact H13

/-- The points 1 to 5: a block of the residual sum is written. -/
theorem step_mid (c : Dev nD) (t : Fin cfg0.N) (h1 : 1 ≤ t.val) (h6 : t.val < 6) :
    bodyPre m c t ⊢ wp frame (wpE (defs₀ (F := F)) Variants.none c none) Set.univ (bodyAt0 t) (fun _ => bodyPost m c t) := by
  have hN := lt_N t
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl, Phi_castSucc, Phi_succ,
    after0_0, after0_1, after0_2, after0_3, after0_4, after0_5, after0_6, after0_7, after0_8, after0_9, after0_10]
  unfold PhiS
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%Y11, %hY11, H11⟩, ⟨%Y12, %hY12, H12⟩, ⟨%Y13, %hY13, H13⟩⟩
  icases HΦ with ⟨%X15, %X16, %X17, %hK, K15, K16, K17, Hg⟩
  have hF : Filled m c t.val Y11 := finds11 m c t Y11 hY11
  have e15 : X15 = attT m c := hK.1 (by omega)
  subst e15
  iapply (body_mid c Set.univ (grid0.coords t) (fun hc => absurd ((cond1_iff t).mp hc) (by omega)) ((cond2_iff t).mpr (by omega)) (fun hc => absurd ((cond3_iff t).mp hc) (by omega)) (fun hc => absurd ((cond4_iff t).mp hc) (by omega)) (fun hc => absurd ((cond5_iff t).mp hc) (by omega)) _ _ _ _ _ _ _ _ _ _ _ _ _ _ _ _ _ _ _ _ _ _ _ _ _ _ _ _ (Memref.whole cc0_scratch0) _ (Memref.whole cc0_scratch1) _ (Memref.whole cc0_scratch2) _
    (iblk m c 0 t) (iblk m c 1 t) (iblk m c 2 t) (iblk m c 3 t) (iblk m c 4 t) (iblk m c 5 t) (iblk m c 6 t) (iblk m c 7 t) (iblk m c 8 t) (iblk m c 9 t) (iblk m c 10 t) Y11 Y12 Y13 (attT m c) X16 X17 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [K15]; · iexact K15
  isplitl [K16]; · iexact K16
  isplitl [K17]; · iexact K17
  iintro ⟨H0, H1, H2, H3, H4, H5, H6, H7, H8, H9, H10, H11, H12, H13, K15, K16, K17⟩
  isplitl [K15 K16 K17 Hg]
  · iexists (attT m c); iexists X16; iexists X17
    isplitr [K15 K16 K17 Hg]
    · ipureintro
      exact ⟨fun _ => rfl, fun hc => absurd hc (by omega)⟩
    isplitl [K15]; · iexact K15
    isplitl [K16]; · iexact K16
    isplitl [K17]; · iexact K17
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iexists _
    isplitr [H11]
    · ipureintro
      exact filled_put m c t (by omega) Y11 hF
    iexact H11
  isplitl [H12]
  · iexists Y12
    isplitr [H12]
    · ipureintro
      show 7 ≤ t.val → _
      exact fun hc => absurd hc (by omega)
    iexact H12
  iexists Y13
  isplitr [H13]
  · ipureintro
    show t.val = 34 → _
    exact fun hc => absurd hc (by omega)
  iexact H13

/-- Point 6: the last block of the residual sum is written and the rows are normalised. -/
theorem step_turn (c : Dev nD) (t : Fin cfg0.N) (ht : t.val = 6) :
    bodyPre m c t ⊢ wp frame (wpE (defs₀ (F := F)) Variants.none c none) Set.univ (bodyAt0 t) (fun _ => bodyPost m c t) := by
  have hN := lt_N t
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl, Phi_castSucc, Phi_succ,
    after0_0, after0_1, after0_2, after0_3, after0_4, after0_5, after0_6, after0_7, after0_8, after0_9, after0_10]
  unfold PhiS
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%Y11, %hY11, H11⟩, ⟨%Y12, %hY12, H12⟩, ⟨%Y13, %hY13, H13⟩⟩
  icases HΦ with ⟨%X15, %X16, %X17, %hK, K15, K16, K17, Hg⟩
  have hF : Filled m c t.val Y11 := finds11 m c t Y11 hY11
  obtain rfl : t = pt 6 six_lt := Fin.ext ht
  have e15 : X15 = attT m c := hK.1 (by show 1 ≤ 6; omega)
  subst e15
  have hP := filled_put m c (pt 6 six_lt) (by show 6 < 7; omega) Y11 hF
  have eP := eq_of_filled m c _ (by show 7 ≤ 6 + 1; omega) _ hP
  iapply (body_turn c Set.univ (grid0.coords (pt 6 six_lt)) (fun hc => absurd ((cond1_iff (pt 6 six_lt)).mp hc) (by decide)) ((cond2_iff (pt 6 six_lt)).mpr (by decide)) ((cond3_iff (pt 6 six_lt)).mpr (by decide)) (fun hc => absurd ((cond4_iff (pt 6 six_lt)).mp hc) (by decide)) (fun hc => absurd ((cond5_iff (pt 6 six_lt)).mp hc) (by decide)) _ _ _ _ _ _ _ _ _ _ _ _ _ _ _ _ _ _ _ _ _ _ _ _ _ _ _ _ (Memref.whole cc0_scratch0) _ (Memref.whole cc0_scratch1) _ (Memref.whole cc0_scratch2) _
    (iblk m c 0 (pt 6 six_lt)) (iblk m c 1 (pt 6 six_lt)) (iblk m c 2 (pt 6 six_lt)) (iblk m c 3 (pt 6 six_lt)) (iblk m c 4 (pt 6 six_lt)) (iblk m c 5 (pt 6 six_lt)) (iblk m c 6 (pt 6 six_lt)) (iblk m c 7 (pt 6 six_lt)) (iblk m c 8 (pt 6 six_lt)) (iblk m c 9 (pt 6 six_lt)) (iblk m c 10 (pt 6 six_lt)) Y11 Y12 Y13 (attT m c) X16 X17 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [K15]; · iexact K15
  isplitl [K16]; · iexact K16
  isplitl [K17]; · iexact K17
  iintro ⟨H0, H1, H2, H3, H4, H5, H6, H7, H8, H9, H10, H11, H12, H13, K15, K16, K17⟩
  isplitl [K15 K16 K17 Hg]
  · iexists (attT m c); iexists _; iexists _
    isplitr [K15 K16 K17 Hg]
    · ipureintro
      exact ⟨fun _ => rfl, fun _ => ⟨congrArg (fun X => k0_pay3 X (iblk m c 2 (pt 6 six_lt))) eP, rfl⟩⟩
    isplitl [K15]; · iexact K15
    isplitl [K16]; · iexact K16
    isplitl [K17]; · iexact K17
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iexists _
    isplitr [H11]
    · ipureintro
      exact hP
    iexact H11
  isplitl [H12]
  · iexists Y12
    isplitr [H12]
    · ipureintro
      show 7 ≤ (pt 6 six_lt).val → _
      exact fun hc => absurd hc (by omega)
    iexact H12
  iexists Y13
  isplitr [H13]
  · ipureintro
    show (pt 6 six_lt).val = 34 → _
    exact fun hc => absurd hc (by omega)
  iexact H13

/-- The points 7 to 33: a block of the activation is written and its part of the down product is added. -/
theorem step_ff (c : Dev nD) (t : Fin cfg0.N) (h7 : 7 ≤ t.val) (h34 : t.val < 34) :
    bodyPre m c t ⊢ wp frame (wpE (defs₀ (F := F)) Variants.none c none) Set.univ (bodyAt0 t) (fun _ => bodyPost m c t) := by
  have hN := lt_N t
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl, Phi_castSucc, Phi_succ,
    after0_0, after0_1, after0_2, after0_3, after0_4, after0_5, after0_6, after0_7, after0_8, after0_9, after0_10]
  unfold PhiS
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%Y11, %hY11, H11⟩, ⟨%Y12, %hY12, H12⟩, ⟨%Y13, %hY13, H13⟩⟩
  icases HΦ with ⟨%X15, %X16, %X17, %hK, K15, K16, K17, Hg⟩
  have hF : Filled m c t.val Y11 := finds11 m c t Y11 hY11
  have e15 : X15 = attT m c := hK.1 (by omega)
  have e16 : X16 = h2 m c := (hK.2 (by omega)).1
  have e17 : X17 = acc m c (t.val - 7) := (hK.2 (by omega)).2
  subst e15 e16 e17
  iapply (body_ff c Set.univ (grid0.coords t) (fun hc => absurd ((cond1_iff t).mp hc) (by omega)) (fun hc => absurd ((cond2_iff t).mp hc) (by omega)) (fun hc => absurd ((cond3_iff t).mp hc) (by omega)) ((cond4_iff t).mpr (by omega)) (fun hc => absurd ((cond5_iff t).mp hc) (by omega)) _ _ _ _ _ _ _ _ _ _ _ _ _ _ _ _ _ _ _ _ _ _ _ _ _ _ _ _ (Memref.whole cc0_scratch0) _ (Memref.whole cc0_scratch1) _ (Memref.whole cc0_scratch2) _
    (iblk m c 0 t) (iblk m c 1 t) (iblk m c 2 t) (iblk m c 3 t) (iblk m c 4 t) (iblk m c 5 t) (iblk m c 6 t) (iblk m c 7 t) (iblk m c 8 t) (iblk m c 9 t) (iblk m c 10 t) Y11 Y12 Y13 (attT m c) (h2 m c) (acc m c (t.val - 7)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [K15]; · iexact K15
  isplitl [K16]; · iexact K16
  isplitl [K17]; · iexact K17
  iintro ⟨H0, H1, H2, H3, H4, H5, H6, H7, H8, H9, H10, H11, H12, H13, K15, K16, K17⟩
  isplitl [K15 K16 K17 Hg]
  · iexists (attT m c); iexists (h2 m c); iexists _
    isplitr [K15 K16 K17 Hg]
    · ipureintro
      exact ⟨fun _ => rfl, fun _ => ⟨rfl, acc_step m c t (by omega)⟩⟩
    isplitl [K15]; · iexact K15
    isplitl [K16]; · iexact K16
    isplitl [K17]; · iexact K17
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iexists Y11
    isplitr [H11]
    · ipureintro
      exact fun j hj => hF j (by have h : (j 1).val < 3584 := (j 1).isLt; omega)
    iexact H11
  isplitl [H12]
  · iexists _
    isplitr [H12]
    · ipureintro
      exact fun _ => rfl
    iexact H12
  iexists Y13
  isplitr [H13]
  · ipureintro
    show t.val = 34 → _
    exact fun hc => absurd hc (by omega)
  iexact H13

/-- Point 34: as before it, and the result is written. -/
theorem step_last (c : Dev nD) (t : Fin cfg0.N) (ht : t.val = 34) :
    bodyPre m c t ⊢ wp frame (wpE (defs₀ (F := F)) Variants.none c none) Set.univ (bodyAt0 t) (fun _ => bodyPost m c t) := by
  have hN := lt_N t
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl, Phi_castSucc, Phi_succ,
    after0_0, after0_1, after0_2, after0_3, after0_4, after0_5, after0_6, after0_7, after0_8, after0_9, after0_10]
  unfold PhiS
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%Y11, %hY11, H11⟩, ⟨%Y12, %hY12, H12⟩, ⟨%Y13, %hY13, H13⟩⟩
  icases HΦ with ⟨%X15, %X16, %X17, %hK, K15, K16, K17, Hg⟩
  have hF : Filled m c t.val Y11 := finds11 m c t Y11 hY11
  have e15 : X15 = attT m c := hK.1 (by omega)
  have e16 : X16 = h2 m c := (hK.2 (by omega)).1
  have e17 : X17 = acc m c (t.val - 7) := (hK.2 (by omega)).2
  subst e15 e16 e17
  have eY := eq_of_filled m c _ (by omega) _ hF
  have ea := acc_step m c t (by omega)
  rw [show t.val + 1 - 7 = 28 by omega] at ea
  iapply (body_last c Set.univ (grid0.coords t) (fun hc => absurd ((cond1_iff t).mp hc) (by omega)) (fun hc => absurd ((cond2_iff t).mp hc) (by omega)) (fun hc => absurd ((cond3_iff t).mp hc) (by omega)) ((cond4_iff t).mpr (by omega)) ((cond5_iff t).mpr (by omega)) _ _ _ _ _ _ _ _ _ _ _ _ _ _ _ _ _ _ _ _ _ _ _ _ _ _ _ _ (Memref.whole cc0_scratch0) _ (Memref.whole cc0_scratch1) _ (Memref.whole cc0_scratch2) _
    (iblk m c 0 t) (iblk m c 1 t) (iblk m c 2 t) (iblk m c 3 t) (iblk m c 4 t) (iblk m c 5 t) (iblk m c 6 t) (iblk m c 7 t) (iblk m c 8 t) (iblk m c 9 t) (iblk m c 10 t) Y11 Y12 Y13 (attT m c) (h2 m c) (acc m c (t.val - 7)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [K15]; · iexact K15
  isplitl [K16]; · iexact K16
  isplitl [K17]; · iexact K17
  iintro ⟨H0, H1, H2, H3, H4, H5, H6, H7, H8, H9, H10, H11, H12, H13, K15, K16, K17⟩
  isplitl [K15 K16 K17 Hg]
  · iexists (attT m c); iexists (h2 m c); iexists _
    isplitr [K15 K16 K17 Hg]
    · ipureintro
      exact ⟨fun _ => rfl, fun _ => ⟨rfl, acc_step m c t (by omega)⟩⟩
    isplitl [K15]; · iexact K15
    isplitl [K16]; · iexact K16
    isplitl [K17]; · iexact K17
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iexists Y11
    isplitr [H11]
    · ipureintro
      exact fun j hj => hF j (by have h : (j 1).val < 3584 := (j 1).isLt; omega)
    iexact H11
  isplitl [H12]
  · iexists _
    isplitr [H12]
    · ipureintro
      exact fun _ => rfl
    iexact H12
  iexists _
  isplitr [H13]
  · ipureintro
    intro _
    have et : (iblk m c 6 t : Vec F S1x3584 .f32) = (iblk m c 6 (pt 34 last_lt) : Vec F S1x3584 .f32) := by rw [show t = pt 34 last_lt from Fin.ext ht]
    show _ = k0_pay7 (hAll m c) (acc m c 28) (iblk m c 6 (pt 34 last_lt))
    rw [← et, ← eY, ← ea]
  iexact H13

/-- The body at any point. -/
theorem sound_body (c : Dev nD) (t : Fin cfg0.N) :
    bodyPre m c t ⊢ wp frame (wpE (defs₀ (F := F)) Variants.none c none) Set.univ (bodyAt0 t) (fun _ => bodyPost m c t) := by
  have hN := lt_N t
  by_cases h0 : t.val = 0
  · exact step_first m c t h0
  by_cases h6 : t.val < 6
  · exact step_mid m c t (by omega) h6
  by_cases e6 : t.val = 6
  · exact step_turn m c t e6
  by_cases h34 : t.val < 34
  · exact step_ff m c t (by omega) h34
  · exact step_last m c t (by omega)

theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) :
    BodyObligationRel (dats (F := F) m 0 c) (defs₀ (F := F)) Variants.none () Set.univ fgt (Rl m c) := fun t => by
  rw [bigSep_W0, bigSep_W0, defs₀_row]
  exact triple_restated (sound_body m c t) rfl .rfl fun _ => .rfl

end Cert.KernelIdeal.Hand

end
-- ==== Proof.KIRun.lean ====
/- The run of the whole program: every execution ends, the arguments are left alone, and the three results hold the
   residual sum, the activation and the result of the layer.
-/
module

public import proofs.«01_k».proof.Proof.Gen.KernelIdeal.Frame
public import proofs.«01_k».proof.Proof.Gen.KernelIdeal.Skeleton
public import Idealize.ShloMosaic.Lib.VecWindow
public import Idealize.ShloMosaic.Lib.Pointwise.Index
public import Idealize.ShloMosaic.Lib.Pipeline.DatRel
public import Idealize.ShloMosaic.Lib.Pipeline.ArrRel
public import Idealize.ShloMosaic.Lib.Pipeline.ValueKit
public import proofs.«01_k».proof.Proof.KIData

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Before the first point nothing is claimed of the kept buffers. -/
theorem phi_in (c : Dev nD) : (Pipeline.ΦA spec0 c : sProp 𝕄) ⊢ (rdats m c).Φ 0 := by
  show _ ⊢ PhiS m c 0 (Nat.zero_le _)
  unfold Pipeline.ΦA PhiS
  rw [scopedRest0_eq]
  simp only [← owns_whole]
  iintro ⟨⟨⟨%f0, H0⟩, ⟨%f1, H1⟩, ⟨%f2, H2⟩⟩, Hg⟩
  iexists f0; iexists f1; iexists f2
  isplitr [H0 H1 H2 Hg]
  · ipureintro
    exact ⟨fun h => absurd h (by decide), fun h => absurd h (by decide)⟩
  isplitl [H0]; · iexact H0
  isplitl [H1]; · iexact H1
  isplitl [H2]; · iexact H2
  iexact Hg

/-- After the last point the kept buffers are given back. -/
theorem phi_out (c : Dev nD) : (rdats m c).Φ (Fin.last cfg0.N) ⊢ (Pipeline.ΦA spec0 c : sProp 𝕄) := by
  show PhiS m c cfg0.N (le_refl _) ⊢ _
  unfold Pipeline.ΦA PhiS
  rw [scopedRest0_eq]
  simp only [← owns_whole]
  iintro ⟨%f0, %f1, %f2, -, H0, H1, H2, Hg⟩
  isplitl [H0 H1 H2]
  · isplitl [H0]; · iexists f0; iexact H0
    isplitl [H1]; · iexists f1; iexact H1
    iexists f2; iexact H2
  iexact Hg

set_option backward.isDefEq.respectTransparency.types false in
set_option maxHeartbeats 800000 in
/-- The run: the pipeline's arrays at what the data allow, and every counter at zero. -/
theorem run_rel : θ_run defs (onTc (τ := τ) (main (F := F))) (s₀ m ρ)
    (fun r => RDat.FramePost (cfgs 0) (rdats m) (V m) r ∧ r.2.sem = fun _ => 0) :=
  Pipeline.RDat.θ_run_frame_track cfgs (0 : Fin 1) launch0 defs₀ Variants.none (rdats m) m ρ main
    (hbody := fun c => (body_obligation m c).toRRel) (hshare := fun c => (dats m 0 c).share_full fun _ => rfl)
    (howed := fun _ _ => rfl) (V := V m) (hmain := hmain m Variants.none) (hA := A_eq m)
    (hin := phi_in m) (hout := phi_out m)
    (Q' := fun r => RDat.FramePost (cfgs 0) (rdats m) (V m) r ∧ r.2.sem = fun _ => 0) (hQ' := fun _ h => h)

/-- The arguments are left alone. -/
theorem args_of (r : PUnit × MemSt nD τ sig (Elt F)) (h : RDat.FramePost (cfgs 0) (rdats m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨(h.arr_in c 0 rfl).trans ((A_eq m c 0).trans (V_main_arg0 m c)),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    (h.arr_in c 7 rfl).trans ((A_eq m c 7).trans (V_main_arg7 m c)),
    (h.arr_in c 8 rfl).trans ((A_eq m c 8).trans (V_main_arg8 m c)),
    (h.arr_in c 9 rfl).trans ((A_eq m c 9).trans (V_main_arg9 m c)),
    (h.arr_in c 10 rfl).trans ((A_eq m c 10).trans (V_main_arg10 m c))⟩

/-- Every execution ends with the arguments left alone and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨args_of m r h.1, h.2⟩) (run_rel m ρ)

/-! ## The results -/

/-- The activation: its 28 blocks side by side. -/
def actAll (c : Dev nD) : Vec F S128x14336 .bf16 := fun j =>
  actBlk m c (pt ((j 1).val / 512 + 7) (by have h : (j 1).val < 14336 := (j 1).isLt; omega))
    (ix2 (j 0) ⟨(j 1).val % 512, Nat.mod_lt _ (by omega)⟩)

theorem idx12 : ∀ t : Fin cfg0.N, (cfg0.win 12).index t 0 = 0 ∧ (cfg0.win 12).index t 1 = t.val - 7 := by decide +kernel
theorem idx11 : ∀ t : Fin cfg0.N, ∀ a, (cfg0.win 11).index t a = 0 := by decide +kernel
theorem idx13 : ∀ t : Fin cfg0.N, ∀ a, (cfg0.win 13).index t a = 0 := by decide +kernel
theorem flush12 : ∀ t : Fin cfg0.N, (cfg0.win 12).flush t = true ↔ 7 ≤ t.val := by decide +kernel

/-- What the results hold at the end. -/
theorem results_of (r : PUnit × MemSt nD τ sig (Elt F)) (h : RDat.FramePost (cfgs 0) (rdats m) (V m) r) (c : Dev nD) :
    r.2.mem ((c.tc : Thread nD τ).loc main_v6_0) = hAll m c
      ∧ r.2.mem ((c.tc : Thread nD τ).loc main_v6_1) = actAll m c
      ∧ r.2.mem ((c.tc : Thread nD τ).loc main_v6_2) = outAll m c := by
  obtain ⟨after, hL, hA⟩ := RDat.FramePost.exists_exact h c
  refine ⟨(hA 11).trans ?_, (hA 12).trans ?_, (hA 13).trans ?_⟩
  · refine ((rdats m c).withAfter after).arrAt_eq_of_covers 11 (hAll m c) (by decide +kernel) fun t hf y => ?_
    have ht := (flush0_11 t).mp hf
    have hN := lt_N t
    have hX : Filled m c (t.val + 1) (after 11 t) := (dats m 0 c).toRRel_leaves (fgt := fgt) (Rl := Rl m c) (w := 11) rfl (hL 11 t hf)
    have e : after 11 t = hAll m c := eq_of_filled m c _ (by omega) _ hX
    blk_simp
    refine (congrFun e y).trans (congrArg (hAll m c) (funext fun a => Fin.ext ?_))
    exact (Pipeline.Window.rect_emb_val_of_index_zero win0_11 t a (idx11 t a) y).symm
  · refine ((rdats m c).withAfter after).arrAt_eq_of_covers 12 (actAll m c) (by decide +kernel) fun t hf y => ?_
    have ht := (flush12 t).mp hf
    have hN := lt_N t
    have hX : 7 ≤ t.val → after 12 t = actBlk m c t := (dats m 0 c).toRRel_leaves (fgt := fgt) (Rl := Rl m c) (w := 12) rfl (hL 12 t hf)
    have e := hX ht
    blk_simp
    refine (congrFun e y).trans ?_
    have h0 : (((win0_12.blk t).view.emb y) 0).val = (y 0).val := by
      show (((win0_12.rect t).emb y) 0).val = _
      rw [Pipeline.Window.rect_emb_val win0_12, show win0_12.index t 0 = 0 from (idx12 t).1, Nat.zero_mul, Nat.zero_add]
    have h1 : (((win0_12.blk t).view.emb y) 1).val = (t.val - 7) * 512 + (y 1).val := by
      show (((win0_12.rect t).emb y) 1).val = _
      rw [Pipeline.Window.rect_emb_val win0_12, show win0_12.index t 1 = t.val - 7 from (idx12 t).2]
      rfl
    have hy : (y 1).val < 512 := (y 1).isLt
    have ha : actBlk m c (pt ((((win0_12.blk t).view.emb y) 1).val / 512 + 7) (by omega)) = actBlk m c t :=
      congrArg (actBlk m c) (Fin.ext (by show _ / 512 + 7 = t.val; omega))
    unfold actAll
    rw [ha]
    refine congrArg (actBlk m c t) (funext fun a => ?_)
    match a with
    | ⟨0, _⟩ => exact Fin.ext h0.symm
    | ⟨1, _⟩ => exact Fin.ext (by show (y 1).val = _ % 512; omega)
  · refine ((rdats m c).withAfter after).arrAt_eq_of_covers 13 (outAll m c) (by decide +kernel) fun t hf y => ?_
    have ht := (flush0_13 t).mp hf
    have hN := lt_N t
    have hX : t.val = 34 → after 13 t = outAll m c := (dats m 0 c).toRRel_leaves (fgt := fgt) (Rl := Rl m c) (w := 13) rfl (hL 13 t hf)
    have e := hX (by omega)
    blk_simp
    refine (congrFun e y).trans (congrArg (outAll m c) (funext fun a => Fin.ext ?_))
    exact (Pipeline.Window.rect_emb_val_of_index_zero win0_13 t a (idx13 t a) y).symm

end Cert.KernelIdeal.Hand

end
-- ==== Proof.KIBlk.lean ====
/- The blocks of the kernel's operands, read at an index, are elements of the arguments. -/
module

public import proofs.«01_k».proof.Proof.Gen.KernelIdeal.Frame
public import Idealize.ShloMosaic.Lib.Pipeline.ValueKit

@[expose] public section

set_option maxRecDepth 16384

noncomputable section

namespace Cert.KernelIdeal.Hand

open Idealize.ShloMosaic Idealize.ShloMosaic.TcCoe Idealize.SL.Sem
open Cert.KernelIdeal Cert.KernelIdeal.Gen

variable (m : (ℓ : Loc nD τ sig) → Buf (Elt Ideal) ℓ)

theorem bidx0 : ∀ t : Fin cfg0.N, win0_0.index t 0 = 0 ∧ win0_0.index t 1 = 0 := by decide +kernel
theorem bidx1 : ∀ t : Fin cfg0.N, win0_1.index t 0 = 0 ∧ win0_1.index t 1 = 0 := by decide +kernel
theorem bidx2 : ∀ t : Fin cfg0.N, win0_2.index t 0 = 0 ∧ win0_2.index t 1 = 0 := by decide +kernel
theorem bidx3 : ∀ t : Fin cfg0.N, win0_3.index t 0 = 0 ∧ win0_3.index t 1 = min t.val 6 := by decide +kernel
theorem bidx4 : ∀ t : Fin cfg0.N, win0_4.index t 0 = 0 ∧ win0_4.index t 1 = t.val - 7 := by decide +kernel
theorem bidx5 : ∀ t : Fin cfg0.N, win0_5.index t 0 = 0 ∧ win0_5.index t 1 = t.val - 7 := by decide +kernel
theorem bidx6 : ∀ t : Fin cfg0.N, win0_6.index t 0 = 0 ∧ win0_6.index t 1 = 0 := by decide +kernel
theorem bidx7 : ∀ t : Fin cfg0.N, win0_7.index t 0 = 0 ∧ win0_7.index t 1 = min t.val 6 := by decide +kernel
theorem bidx8 : ∀ t : Fin cfg0.N, win0_8.index t 0 = 0 ∧ win0_8.index t 1 = t.val - 7 := by decide +kernel
theorem bidx9 : ∀ t : Fin cfg0.N, win0_9.index t 0 = 0 ∧ win0_9.index t 1 = t.val - 7 := by decide +kernel
theorem bidx10 : ∀ t : Fin cfg0.N, win0_10.index t 0 = t.val - 7 ∧ win0_10.index t 1 = 0 := by decide +kernel
theorem blk0 (c : Dev nD) (t : Fin cfg0.N) (r : Fin 128) (k : Fin 3584) :
    (iblk m c 0 t : Vec Ideal S128x3584 .bf16) (ix2 r k) = m ((c : Thread nD τ).loc main_arg0) (ix2 r k) := by
  have hN : t.val < 35 := lt_of_lt_of_eq t.isLt N_0
  blk_ext! [iblk, V, V_main_arg0, bidx0 t]

theorem blk1 (c : Dev nD) (t : Fin cfg0.N) (k : Fin 3840) (r : Fin 128) :
    (iblk m c 1 t : Vec Ideal S3840x128 .bf16) (ix2 k r) = m ((c : Thread nD τ).loc main_arg1) (ix3 ⟨k.val / 160, by omega⟩ ⟨k.val % 160, by omega⟩ r) := by
  have hN : t.val < 35 := lt_of_lt_of_eq t.isLt N_0
  blk_ext! [iblk, V, V_main_arg1, bidx1 t]

theorem blk2 (c : Dev nD) (t : Fin cfg0.N) (k : Fin 3584) :
    (iblk m c 2 t : Vec Ideal S1x3584 .f32) (ix2 0 k) = m ((c : Thread nD τ).loc main_arg2) (ix1 k) := by
  have hN : t.val < 35 := lt_of_lt_of_eq t.isLt N_0
  blk_ext! [iblk, V, V_main_arg2, bidx2 t]

theorem blk3 (c : Dev nD) (t : Fin cfg0.N) (y : Fin 512) (ht : t.val < 7) :
    (iblk m c 3 t : Vec Ideal S1x512 .f32) (ix2 0 y) = m ((c : Thread nD τ).loc main_arg3) (ix1 ⟨t.val * 512 + y.val, by omega⟩) := by
  have hN : t.val < 35 := lt_of_lt_of_eq t.isLt N_0
  blk_ext! [iblk, V, V_main_arg3, bidx3 t]

theorem blk4 (c : Dev nD) (t : Fin cfg0.N) (y : Fin 512) :
    (iblk m c 4 t : Vec Ideal S1x512 .f32) (ix2 0 y) = m ((c : Thread nD τ).loc main_arg4) (ix1 ⟨(t.val - 7) * 512 + y.val, by have hN : t.val < 35 := lt_of_lt_of_eq t.isLt N_0; omega⟩) := by
  have hN : t.val < 35 := lt_of_lt_of_eq t.isLt N_0
  blk_ext! [iblk, V, V_main_arg4, bidx4 t]

theorem blk5 (c : Dev nD) (t : Fin cfg0.N) (y : Fin 512) :
    (iblk m c 5 t : Vec Ideal S1x512 .f32) (ix2 0 y) = m ((c : Thread nD τ).loc main_arg5) (ix1 ⟨(t.val - 7) * 512 + y.val, by have hN : t.val < 35 := lt_of_lt_of_eq t.isLt N_0; omega⟩) := by
  have hN : t.val < 35 := lt_of_lt_of_eq t.isLt N_0
  blk_ext! [iblk, V, V_main_arg5, bidx5 t]

theorem blk6 (c : Dev nD) (t : Fin cfg0.N) (k : Fin 3584) :
    (iblk m c 6 t : Vec Ideal S1x3584 .f32) (ix2 0 k) = m ((c : Thread nD τ).loc main_arg6) (ix1 k) := by
  have hN : t.val < 35 := lt_of_lt_of_eq t.isLt N_0
  blk_ext! [iblk, V, V_main_arg6, bidx6 t]

theorem blk7 (c : Dev nD) (t : Fin cfg0.N) (k : Fin 3840) (y : Fin 512) (ht : t.val < 7) :
    (iblk m c 7 t : Vec Ideal S3840x512 .fp8e4m3) (ix2 k y) = m ((c : Thread nD τ).loc main_arg7) (ix2 k ⟨t.val * 512 + y.val, by omega⟩) := by
  have hN : t.val < 35 := lt_of_lt_of_eq t.isLt N_0
  blk_ext! [iblk, V, V_main_arg7, bidx7 t]

theorem blk8 (c : Dev nD) (t : Fin cfg0.N) (k : Fin 3584) (y : Fin 512) :
    (iblk m c 8 t : Vec Ideal S3584x512 .fp8e4m3) (ix2 k y) = m ((c : Thread nD τ).loc main_arg8) (ix2 k ⟨(t.val - 7) * 512 + y.val, by have hN : t.val < 35 := lt_of_lt_of_eq t.isLt N_0; omega⟩) := by
  have hN : t.val < 35 := lt_of_lt_of_eq t.isLt N_0
  blk_ext! [iblk, V, V_main_arg8, bidx8 t]

theorem blk9 (c : Dev nD) (t : Fin cfg0.N) (k : Fin 3584) (y : Fin 512) :
    (iblk m c 9 t : Vec Ideal S3584x512 .fp8e4m3) (ix2 k y) = m ((c : Thread nD τ).loc main_arg9) (ix2 k ⟨(t.val - 7) * 512 + y.val, by have hN : t.val < 35 := lt_of_lt_of_eq t.isLt N_0; omega⟩) := by
  have hN : t.val < 35 := lt_of_lt_of_eq t.isLt N_0
  blk_ext! [iblk, V, V_main_arg9, bidx9 t]

theorem blk10 (c : Dev nD) (t : Fin cfg0.N) (y : Fin 512) (k : Fin 3584) :
    (iblk m c 10 t : Vec Ideal S512x3584 .fp8e4m3) (ix2 y k) = m ((c : Thread nD τ).loc main_arg10) (ix2 ⟨(t.val - 7) * 512 + y.val, by have hN : t.val < 35 := lt_of_lt_of_eq t.isLt N_0; omega⟩ k) := by
  have hN : t.val < 35 := lt_of_lt_of_eq t.isLt N_0
  blk_ext! [iblk, V, V_main_arg10, bidx10 t]

end Cert.KernelIdeal.Hand

end
-- ==== Proof.KIPure.lean ====
/- The kernel's payloads at the exact reals, read at an index. -/
module

public import proofs.«01_k».proof.Proof.Gen.KernelIdeal.Skeleton
public import Idealize.ShloMosaic.Lib.Pointwise

@[expose] public section

set_option maxRecDepth 16384

noncomputable section

namespace Cert.KernelIdeal.Hand

open Idealize.ShloMosaic Idealize.ShloMosaic.TcCoe Idealize.SL.Sem
open Cert.KernelIdeal Cert.KernelIdeal.Gen

theorem pay1 (x : FVec Ideal S3840x128 .bf16) (r : Fin 128) (k : Fin 3840) :
    k0_pay1 (F := Ideal) x (ix2 r k) = x (ix2 k r) := by
  pointwise! [k0_pay1]

theorem pay2 (a : FVec Ideal S128x3840 .bf16) (w : FVec Ideal S3840x512 .fp8e4m3) (s : FVec Ideal S1x512 .f32) (x : FVec Ideal S128x512 .bf16) (r : Fin 128) (c : Fin 512) :
    k0_pay2 (F := Ideal) a w s x (ix2 r c) = x (ix2 r c) + (∑ k, a (ix2 r k) * w (ix2 k c)) * s (ix2 0 c) := by
  pointwise! [k0_pay2]

theorem pay3 (h : FVec Ideal S128x3584 .bf16) (g : FVec Ideal S1x3584 .f32) (r : Fin 128) (c : Fin 3584) :
    k0_pay3 (F := Ideal) h g (ix2 r c) = h (ix2 r c) * Ideal.rsqrt (Ideal.div (∑ k, h (ix2 r k) * h (ix2 r k)) (Ideal.ofBits FTy.f32 1163919360#32) + Ideal.ofBits FTy.f32 925353388#32) * g (ix2 0 c) := by
  pointwise! [k0_pay3]

theorem pay4 (r : Fin 128) (c : Fin 3584) :
    k0_pay4 (F := Ideal) (ix2 r c) = 0 := by
  pointwise [k0_pay4]

theorem pay5 (h : FVec Ideal S128x3584 .bf16) (wg : FVec Ideal S3584x512 .fp8e4m3) (sg : FVec Ideal S1x512 .f32) (wu : FVec Ideal S3584x512 .fp8e4m3) (su : FVec Ideal S1x512 .f32) (r : Fin 128) (c : Fin 512) :
    k0_pay5 (F := Ideal) h wg sg h wu su (ix2 r c) = (∑ k, h (ix2 r k) * wg (ix2 k c)) * sg (ix2 0 c) * Ideal.logistic ((∑ k, h (ix2 r k) * wg (ix2 k c)) * sg (ix2 0 c)) * ((∑ k, h (ix2 r k) * wu (ix2 k c)) * su (ix2 0 c)) := by
  pointwise! [k0_pay5]

theorem pay6 (h : FVec Ideal S128x3584 .bf16) (wg : FVec Ideal S3584x512 .fp8e4m3) (sg : FVec Ideal S1x512 .f32) (wu : FVec Ideal S3584x512 .fp8e4m3) (su : FVec Ideal S1x512 .f32) (a : FVec Ideal S128x3584 .f32) (wd : FVec Ideal S512x3584 .fp8e4m3) (r : Fin 128) (c : Fin 3584) :
    k0_pay6 (F := Ideal) h wg sg h wu su a wd (ix2 r c) = a (ix2 r c) + ∑ k, k0_pay5 (F := Ideal) h wg sg h wu su (ix2 r k) * wd (ix2 k c) := by
  pointwise! [k0_pay6]

theorem pay7 (h : FVec Ideal S128x3584 .bf16) (a : FVec Ideal S128x3584 .f32) (s : FVec Ideal S1x3584 .f32) (r : Fin 128) (c : Fin 3584) :
    k0_pay7 (F := Ideal) h a s (ix2 r c) = h (ix2 r c) + a (ix2 r c) * s (ix2 0 c) := by
  pointwise! [k0_pay7]

end Cert.KernelIdeal.Hand

end
-- ==== Proof.Plain.lean ====
/- The layer written plainly over the extended reals: the residual sum after attention, its norm, the gated activation
and the result. Both programs are shown to compute these functions of their arguments. -/
module

public import Idealize.ShloMosaic.Lib.Pointwise

@[expose] public section

noncomputable section

namespace Cert.Layer

open Idealize.ShloMosaic

/-- The residual stream after the output projection of the attention. -/
def hmid (X : Fin 128 → Fin 3584 → EReal) (A : Fin 128 → Fin 3840 → EReal) (W : Fin 3840 → Fin 3584 → EReal)
    (S : Fin 3584 → EReal) (r : Fin 128) (c : Fin 3584) : EReal :=
  X r c + (∑ k, A r k * W k c) * S c

/-- The root-mean-square norm of a row, with a gain for each column. The two constants are 3584 and the epsilon. -/
def norm (H : Fin 128 → Fin 3584 → EReal) (G : Fin 3584 → EReal) (r : Fin 128) (c : Fin 3584) : EReal :=
  H r c * Ideal.rsqrt (Ideal.div (∑ k, H r k * H r k) (Ideal.ofBits FTy.f32 1163919360#32)
    + Ideal.ofBits FTy.f32 925353388#32) * G c

/-- A product with a matrix whose columns carry a scale. -/
def proj (N : Fin 128 → Fin 3584 → EReal) (W : Fin 3584 → Fin 14336 → EReal) (S : Fin 14336 → EReal)
    (r : Fin 128) (f : Fin 14336) : EReal :=
  (∑ k, N r k * W k f) * S f

/-- The gated activation: `g * logistic g * u` of the two projections. -/
def act (N : Fin 128 → Fin 3584 → EReal) (Wg : Fin 3584 → Fin 14336 → EReal) (Sg : Fin 14336 → EReal)
    (Wu : Fin 3584 → Fin 14336 → EReal) (Su : Fin 14336 → EReal) (r : Fin 128) (f : Fin 14336) : EReal :=
  proj N Wg Sg r f * Ideal.logistic (proj N Wg Sg r f) * proj N Wu Su r f

/-- The result: the residual and the down projection of the activation. -/
def out (H : Fin 128 → Fin 3584 → EReal) (A : Fin 128 → Fin 14336 → EReal) (W : Fin 14336 → Fin 3584 → EReal)
    (S : Fin 3584 → EReal) (r : Fin 128) (c : Fin 3584) : EReal :=
  H r c + (∑ f, A r f * W f c) * S c

end Cert.Layer

end
-- ==== Proof.KIValue.lean ====
/- What the kernel leaves in its three results, as plain functions of its arguments. -/
module

public import proofs.«01_k».proof.Proof.KIInv
public import proofs.«01_k».proof.Proof.KIRun
public import proofs.«01_k».proof.Proof.KIBlk
public import proofs.«01_k».proof.Proof.KIPure
public import proofs.«01_k».proof.Proof.Plain

@[expose] public section

set_option maxRecDepth 16384

noncomputable section

namespace Cert.KernelIdeal.Hand

open Idealize.ShloMosaic Idealize.ShloMosaic.TcCoe Idealize.SL.Sem
open Cert.KernelIdeal Cert.KernelIdeal.Gen

variable (m : (ℓ : Loc nD τ sig) → Buf (Elt Ideal) ℓ) (c : Dev nD)

/-! The arguments by row and column. -/

def pX (r : Fin 128) (k : Fin 3584) : EReal := m ((c : Thread nD τ).loc main_arg0) (ix2 r k)
def pA (r : Fin 128) (k : Fin 3840) : EReal :=
  m ((c : Thread nD τ).loc main_arg1) (ix3 ⟨k.val / 160, by omega⟩ ⟨k.val % 160, by omega⟩ r)
def pG (k : Fin 3584) : EReal := m ((c : Thread nD τ).loc main_arg2) (ix1 k)
def pSo (k : Fin 3584) : EReal := m ((c : Thread nD τ).loc main_arg3) (ix1 k)
def pSg (k : Fin 14336) : EReal := m ((c : Thread nD τ).loc main_arg4) (ix1 k)
def pSu (k : Fin 14336) : EReal := m ((c : Thread nD τ).loc main_arg5) (ix1 k)
def pSd (k : Fin 3584) : EReal := m ((c : Thread nD τ).loc main_arg6) (ix1 k)
def pWo (k : Fin 3840) (j : Fin 3584) : EReal := m ((c : Thread nD τ).loc main_arg7) (ix2 k j)
def pWg (k : Fin 3584) (j : Fin 14336) : EReal := m ((c : Thread nD τ).loc main_arg8) (ix2 k j)
def pWu (k : Fin 3584) (j : Fin 14336) : EReal := m ((c : Thread nD τ).loc main_arg9) (ix2 k j)
def pWd (k : Fin 14336) (j : Fin 3584) : EReal := m ((c : Thread nD τ).loc main_arg10) (ix2 k j)

/-- The residual stream, from the arguments. -/
def pH : Fin 128 → Fin 3584 → EReal := Layer.hmid (pX m c) (pA m c) (pWo m c) (pSo m c)
/-- Its norm. -/
def pN : Fin 128 → Fin 3584 → EReal := Layer.norm (pH m c) (pG m c)
/-- The gated activation. -/
def pAct : Fin 128 → Fin 14336 → EReal := Layer.act (pN m c) (pWg m c) (pSg m c) (pWu m c) (pSu m c)
/-- The result. -/
def pOut : Fin 128 → Fin 3584 → EReal := Layer.out (pH m c) (pAct m c) (pWd m c) (pSd m c)

theorem attT_at (r : Fin 128) (k : Fin 3840) : attT m c (ix2 r k) = pA m c r k :=
  (pay1 _ r k).trans (blk1 m c _ k r)

/-- The window of the residual input that step `n` reads. -/
theorem xWin_at (n : ℕ) (h : n < 7) (r : Fin 128) (y : Fin 512) :
    xWin m c n h (ix2 r y) = pX m c r ⟨n * 512 + y.val, by omega⟩ := by
  have e : xWin m c n h (ix2 r y)
      = (iblk m c 0 (pt n (by omega)) : Vec Ideal S128x3584 .bf16) (ix2 r ⟨n * 512 + y.val, by omega⟩) := by
    unfold xWin VecWindow.window
    refine congrArg _ (funext fun a => Fin.ext ?_)
    have ho := off1_eq (pt n (by omega))
    fin_cases a
    · simp [ho]
    · simp [ho]; show 512 * n = n * 512; omega
  rw [e]; exact blk0 m c _ r _

theorem hBlk_at (n : ℕ) (h : n < 7) (r : Fin 128) (y : Fin 512) :
    hBlk m c n h (ix2 r y) = pH m c r ⟨n * 512 + y.val, by omega⟩ := by
  unfold hBlk
  rw [pay2, xWin_at, blk3 m c _ y h]
  unfold pH Layer.hmid
  refine congrArg (fun s : EReal => pX m c r ⟨n * 512 + y.val, by omega⟩ + s * pSo m c ⟨n * 512 + y.val, by omega⟩) ?_
  exact Finset.sum_congr rfl fun k _ => congrArg₂ (· * ·) (attT_at m c r k) (blk7 m c _ k y h)

theorem hAll_at (r : Fin 128) (j : Fin 3584) : hAll m c (ix2 r j) = pH m c r j := by
  refine (hBlk_at m c (j.val / 512) (by omega) r ⟨j.val % 512, by omega⟩).trans ?_
  exact congrArg (pH m c r) (Fin.ext (by show j.val / 512 * 512 + j.val % 512 = j.val; omega))

theorem h2_at (r : Fin 128) (k : Fin 3584) : h2 m c (ix2 r k) = pN m c r k := by
  unfold h2
  rw [pay3, blk2]
  simp only [hAll_at]
  rfl

theorem actBlk_at (n : ℕ) (h : n + 7 < 35) (r : Fin 128) (y : Fin 512) :
    actBlk m c (pt (n + 7) h) (ix2 r y) = pAct m c r ⟨n * 512 + y.val, by omega⟩ := by
  have e : ∀ p q, (⟨(n + 7 - 7) * 512 + y.val, p⟩ : Fin 14336) = ⟨n * 512 + y.val, q⟩ := fun p q => Fin.ext (by
    show (n + 7 - 7) * 512 + y.val = n * 512 + y.val; omega)
  have e4 := blk4 m c (pt (n + 7) h) y
  have e5 := blk5 m c (pt (n + 7) h) y
  have e8 := fun k => blk8 m c (pt (n + 7) h) k y
  have e9 := fun k => blk9 m c (pt (n + 7) h) k y
  unfold actBlk
  rw [pay5, e4, e5]
  simp only [e8, e9, h2_at]
  unfold pAct Layer.act Layer.proj pWg pWu pSg pSu
  rfl

theorem actAll_at (r : Fin 128) (j : Fin 14336) : actAll m c (ix2 r j) = pAct m c r j := by
  refine (actBlk_at m c (j.val / 512) (by omega) r ⟨j.val % 512, by omega⟩).trans ?_
  exact congrArg (pAct m c r) (Fin.ext (by show j.val / 512 * 512 + j.val % 512 = j.val; omega))

/-- The part of the down projection that tile `n` of the feed-forward columns adds. -/
def tile (r : Fin 128) (j : Fin 3584) (n : ℕ) : EReal :=
  if h : n < 28 then ∑ y : Fin 512, pAct m c r ⟨n * 512 + y.val, by omega⟩ * pWd m c ⟨n * 512 + y.val, by omega⟩ j
  else 0

/-- The accumulator after `k` tiles is the sum of their parts. -/
theorem acc_at (r : Fin 128) (j : Fin 3584) : ∀ k : ℕ, k ≤ 28 →
    acc m c k (ix2 r j) = ∑ n ∈ Finset.range k, tile m c r j n
  | 0, _ => (pay4 r j).trans (Finset.sum_range_zero _).symm
  | k + 1, hk => by
    have h : k + 7 < 35 := by omega
    have e10 := fun y => blk10 m c (pt (k + 7) h) y j
    rw [Finset.sum_range_succ, ← acc_at r j k (by omega)]
    have e : acc m c (k + 1) = k0_pay6 (h2 m c) (iblk m c 8 (pt (k + 7) h)) (iblk m c 4 (pt (k + 7) h)) (h2 m c)
        (iblk m c 9 (pt (k + 7) h)) (iblk m c 5 (pt (k + 7) h)) (acc m c k) (iblk m c 10 (pt (k + 7) h)) := by
      rw [acc, dif_pos h]
    rw [e, pay6]
    refine congrArg (fun s : EReal => acc m c k (ix2 r j) + s) ?_
    unfold tile
    rw [dif_pos (by omega)]
    exact Finset.sum_congr rfl fun y _ => congrArg₂ (· * ·) (actBlk_at m c k h r y) (e10 y)

theorem outAll_at (r : Fin 128) (j : Fin 3584) : outAll m c (ix2 r j) = pOut m c r j := by
  unfold outAll
  rw [pay7, hAll_at, acc_at m c r j 28 le_rfl, blk6, Finset.sum_range]
  unfold pOut Layer.out
  rw [Fin.sum_univ_tiles 28 512 rfl]
  refine congrArg (fun s : EReal => pH m c r j + s * pSd m c j) ?_
  exact Finset.sum_congr rfl fun n _ => by unfold tile; rw [dif_pos n.isLt]

end Cert.KernelIdeal.Hand

end
-- ==== Proof.RIBlk.lean ====
/- The blocks of the reference's operands, read at an index, are elements of the arguments. -/
module

public import proofs.«01_k».proof.Proof.Gen.ReferenceIdeal.Frame
public import Idealize.ShloMosaic.Lib.Pipeline.ValueKit

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen

variable (m : (ℓ : Loc nD τ sig) → Buf (Elt Ideal) ℓ)

theorem bidx0 : ∀ t : Fin cfg0.N, win0_0.index t 0 = 0 ∧ win0_0.index t 1 = 0 := by decide +kernel
theorem bidx1 : ∀ t : Fin cfg0.N, win0_1.index t 0 = 0 ∧ win0_1.index t 1 = 0 := by decide +kernel
theorem bidx2 : ∀ t : Fin cfg0.N, win0_2.index t 0 = 0 ∧ win0_2.index t 1 = 0 := by decide +kernel
theorem bidx3 : ∀ t : Fin cfg0.N, win0_3.index t 0 = 0 ∧ win0_3.index t 1 = 0 := by decide +kernel
theorem bidx4 : ∀ t : Fin cfg0.N, win0_4.index t 0 = 0 ∧ win0_4.index t 1 = 0 := by decide +kernel
theorem bidx5 : ∀ t : Fin cfg0.N, win0_5.index t 0 = 0 ∧ win0_5.index t 1 = 0 := by decide +kernel
theorem bidx6 : ∀ t : Fin cfg0.N, win0_6.index t 0 = 0 ∧ win0_6.index t 1 = 0 := by decide +kernel
theorem bidx7 : ∀ t : Fin cfg0.N, win0_7.index t 0 = 0 ∧ win0_7.index t 1 = 0 := by decide +kernel
theorem bidx8 : ∀ t : Fin cfg0.N, win0_8.index t 0 = 0 ∧ win0_8.index t 1 = 0 := by decide +kernel
theorem bidx9 : ∀ t : Fin cfg0.N, win0_9.index t 0 = 0 ∧ win0_9.index t 1 = 0 := by decide +kernel
theorem bidx10 : ∀ t : Fin cfg0.N, win0_10.index t 0 = 0 ∧ win0_10.index t 1 = 0 := by decide +kernel
theorem bidx11 : ∀ t : Fin cfg0.N, win0_11.index t 0 = 0 ∧ win0_11.index t 1 = 0 := by decide +kernel
theorem bidx12 : ∀ t : Fin cfg0.N, win0_12.index t 0 = 0 ∧ win0_12.index t 1 = 0 := by decide +kernel
theorem bidx13 : ∀ t : Fin cfg0.N, win0_13.index t 0 = 0 ∧ win0_13.index t 1 = 0 := by decide +kernel

theorem blk0 (c : Dev nD) (t : Fin cfg0.N) (r : Fin 128) (k : Fin 3584) :
    (iblk m c 0 t : Vec Ideal S128x3584 .bf16) (ix2 r k) = m ((c : Thread nD τ).loc main_arg0) (ix2 r k) := by
  blk_ext! [iblk, V, V_main_arg0, bidx0 t]

theorem blk1 (c : Dev nD) (t : Fin cfg0.N) (r : Fin 128) (k : Fin 3840) :
    (iblk m c 1 t : Vec Ideal S128x3840 .bf16) (ix2 r k) = m ((c : Thread nD τ).loc main_arg1) (ix3 ⟨k.val / 160, by omega⟩ ⟨k.val % 160, by omega⟩ r) := by
  blk_ext! [iblk, V, V_main_arg1, bidx1 t]

theorem blk2 (c : Dev nD) (t : Fin cfg0.N) (k : Fin 3584) :
    (iblk m c 2 t : Vec Ideal S1x3584 .f32) (ix2 0 k) = m ((c : Thread nD τ).loc main_arg2) (ix1 k) := by
  blk_ext! [iblk, V, V_main_arg2, bidx2 t]

theorem blk3 (c : Dev nD) (t : Fin cfg0.N) (k : Fin 3584) :
    (iblk m c 3 t : Vec Ideal S1x3584 .f32) (ix2 0 k) = m ((c : Thread nD τ).loc main_arg3) (ix1 k) := by
  blk_ext! [iblk, V, V_main_arg3, bidx3 t]

theorem blk4 (c : Dev nD) (t : Fin cfg0.N) (k : Fin 14336) :
    (iblk m c 4 t : Vec Ideal S1x14336 .f32) (ix2 0 k) = m ((c : Thread nD τ).loc main_arg4) (ix1 k) := by
  blk_ext! [iblk, V, V_main_arg4, bidx4 t]

theorem blk5 (c : Dev nD) (t : Fin cfg0.N) (k : Fin 14336) :
    (iblk m c 5 t : Vec Ideal S1x14336 .f32) (ix2 0 k) = m ((c : Thread nD τ).loc main_arg5) (ix1 k) := by
  blk_ext! [iblk, V, V_main_arg5, bidx5 t]

theorem blk6 (c : Dev nD) (t : Fin cfg0.N) (k : Fin 3584) :
    (iblk m c 6 t : Vec Ideal S1x3584 .f32) (ix2 0 k) = m ((c : Thread nD τ).loc main_arg6) (ix1 k) := by
  blk_ext! [iblk, V, V_main_arg6, bidx6 t]

theorem blk7 (c : Dev nD) (t : Fin cfg0.N) (r : Fin 3840) (k : Fin 3584) :
    (iblk m c 7 t : Vec Ideal S3840x3584 .fp8e4m3) (ix2 r k) = m ((c : Thread nD τ).loc main_arg7) (ix2 r k) := by
  blk_ext! [iblk, V, V_main_arg7, bidx7 t]

theorem blk8 (c : Dev nD) (t : Fin cfg0.N) (r : Fin 3584) (k : Fin 14336) :
    (iblk m c 8 t : Vec Ideal S3584x14336 .fp8e4m3) (ix2 r k) = m ((c : Thread nD τ).loc main_arg8) (ix2 r k) := by
  blk_ext! [iblk, V, V_main_arg8, bidx8 t]

theorem blk9 (c : Dev nD) (t : Fin cfg0.N) (r : Fin 3584) (k : Fin 14336) :
    (iblk m c 9 t : Vec Ideal S3584x14336 .fp8e4m3) (ix2 r k) = m ((c : Thread nD τ).loc main_arg9) (ix2 r k) := by
  blk_ext! [iblk, V, V_main_arg9, bidx9 t]

theorem blk10 (c : Dev nD) (t : Fin cfg0.N) (r : Fin 14336) (k : Fin 3584) :
    (iblk m c 10 t : Vec Ideal S14336x3584 .fp8e4m3) (ix2 r k) = m ((c : Thread nD τ).loc main_arg10) (ix2 r k) := by
  blk_ext! [iblk, V, V_main_arg10, bidx10 t]

end Cert.ReferenceIdeal.Hand

end
-- ==== Proof.RIPure.lean ====
/- The reference's payloads at the exact reals, read at an index. -/
module

public import proofs.«01_k».proof.Proof.Gen.ReferenceIdeal.Skeleton
public import Idealize.ShloMosaic.Lib.Pointwise

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen

theorem pay3 (x : FVec Ideal S128x3584 .bf16) (a : FVec Ideal S128x3840 .bf16) (w : FVec Ideal S3840x3584 .fp8e4m3)
    (s : FVec Ideal S1x3584 .f32) (r : Fin 128) (c : Fin 3584) :
    k0_pay3 (F := Ideal) x a w s (ix2 r c) = x (ix2 r c) + (∑ k, a (ix2 r k) * w (ix2 k c)) * s (ix2 0 c) := by
  pointwise! [k0_pay3]

theorem pay4 (x : FVec Ideal S128x3584 .bf16) (a : FVec Ideal S128x3840 .bf16) (w : FVec Ideal S3840x3584 .fp8e4m3)
    (s : FVec Ideal S1x3584 .f32) (r : Fin 128) (c : Fin 3584) :
    k0_pay4 (F := Ideal) x a w s (ix2 r c) = k0_pay3 (F := Ideal) x a w s (ix2 r c) := by
  pointwise! [k0_pay4]

theorem pay5 (x : FVec Ideal S128x3584 .bf16) (a : FVec Ideal S128x3840 .bf16) (w : FVec Ideal S3840x3584 .fp8e4m3)
    (s : FVec Ideal S1x3584 .f32) (g : FVec Ideal S1x3584 .f32) (r : Fin 128) (c : Fin 3584) :
    k0_pay5 (F := Ideal) x a w s g (ix2 r c) = k0_pay3 (F := Ideal) x a w s (ix2 r c)
      * Ideal.rsqrt (Ideal.div (∑ k, k0_pay3 (F := Ideal) x a w s (ix2 r k) * k0_pay3 (F := Ideal) x a w s (ix2 r k))
        (Ideal.ofBits FTy.f32 1163919360#32) + Ideal.ofBits FTy.f32 925353388#32) * g (ix2 0 c) := by
  pointwise! [k0_pay5, k0_pay4]

theorem pay6 (x : FVec Ideal S128x3584 .bf16) (a : FVec Ideal S128x3840 .bf16) (w : FVec Ideal S3840x3584 .fp8e4m3)
    (s : FVec Ideal S1x3584 .f32) (g : FVec Ideal S1x3584 .f32) (wg : FVec Ideal S3584x14336 .fp8e4m3)
    (sg : FVec Ideal S1x14336 .f32) (r : Fin 128) (f : Fin 14336) :
    k0_pay6 (F := Ideal) x a w s g wg sg (ix2 r f)
      = (∑ k, k0_pay5 (F := Ideal) x a w s g (ix2 r k) * wg (ix2 k f)) * sg (ix2 0 f) := by
  pointwise! [k0_pay6]

theorem pay1 (n : FVec Ideal S128x3584 .bf16) (t : FVec Ideal S128x14336 .f32) (wu : FVec Ideal S3584x14336 .fp8e4m3)
    (su : FVec Ideal S1x14336 .f32) (r : Fin 128) (f : Fin 14336) :
    k0_pay1 (F := Ideal) n t wu su (ix2 r f)
      = t (ix2 r f) * Ideal.logistic (t (ix2 r f)) * ((∑ k, n (ix2 r k) * wu (ix2 k f)) * su (ix2 0 f)) := by
  pointwise! [k0_pay1]

theorem pay2 (h : FVec Ideal S128x3584 .f32) (n : FVec Ideal S128x3584 .bf16) (t : FVec Ideal S128x14336 .f32)
    (wu : FVec Ideal S3584x14336 .fp8e4m3) (su : FVec Ideal S1x14336 .f32) (wd : FVec Ideal S14336x3584 .fp8e4m3)
    (sd : FVec Ideal S1x3584 .f32) (r : Fin 128) (c : Fin 3584) :
    k0_pay2 (F := Ideal) h n t wu su wd sd (ix2 r c)
      = h (ix2 r c) + (∑ f, k0_pay1 (F := Ideal) n t wu su (ix2 r f) * wd (ix2 f c)) * sd (ix2 0 c) := by
  pointwise! [k0_pay2]

end Cert.ReferenceIdeal.Hand

end
-- ==== Proof.RIValue.lean ====
/- What the reference leaves in its three results, as plain functions of its arguments. -/
module

public import proofs.«01_k».proof.Proof.RIBlk
public import proofs.«01_k».proof.Proof.RIPure
public import proofs.«01_k».proof.Proof.Plain
public import proofs.«01_k».proof.Proof.Gen.ReferenceIdeal.Value

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen

variable (m : (ℓ : Loc nD τ sig) → Buf (Elt Ideal) ℓ) (c : Dev nD)

/-! The arguments by row and column. -/

def pX (r : Fin 128) (k : Fin 3584) : EReal := m ((c : Thread nD τ).loc main_arg0) (ix2 r k)
def pA (r : Fin 128) (k : Fin 3840) : EReal :=
  m ((c : Thread nD τ).loc main_arg1) (ix3 ⟨k.val / 160, by omega⟩ ⟨k.val % 160, by omega⟩ r)
def pG (k : Fin 3584) : EReal := m ((c : Thread nD τ).loc main_arg2) (ix1 k)
def pSo (k : Fin 3584) : EReal := m ((c : Thread nD τ).loc main_arg3) (ix1 k)
def pSg (k : Fin 14336) : EReal := m ((c : Thread nD τ).loc main_arg4) (ix1 k)
def pSu (k : Fin 14336) : EReal := m ((c : Thread nD τ).loc main_arg5) (ix1 k)
def pSd (k : Fin 3584) : EReal := m ((c : Thread nD τ).loc main_arg6) (ix1 k)
def pWo (k : Fin 3840) (j : Fin 3584) : EReal := m ((c : Thread nD τ).loc main_arg7) (ix2 k j)
def pWg (k : Fin 3584) (j : Fin 14336) : EReal := m ((c : Thread nD τ).loc main_arg8) (ix2 k j)
def pWu (k : Fin 3584) (j : Fin 14336) : EReal := m ((c : Thread nD τ).loc main_arg9) (ix2 k j)
def pWd (k : Fin 14336) (j : Fin 3584) : EReal := m ((c : Thread nD τ).loc main_arg10) (ix2 k j)

/-- The residual stream, from the arguments. -/
def pH : Fin 128 → Fin 3584 → EReal := Layer.hmid (pX m c) (pA m c) (pWo m c) (pSo m c)
/-- Its norm. -/
def pN : Fin 128 → Fin 3584 → EReal := Layer.norm (pH m c) (pG m c)
/-- The gated activation. -/
def pAct : Fin 128 → Fin 14336 → EReal := Layer.act (pN m c) (pWg m c) (pSg m c) (pWu m c) (pSu m c)
/-- The result. -/
def pOut : Fin 128 → Fin 3584 → EReal := Layer.out (pH m c) (pAct m c) (pWd m c) (pSd m c)

/-- The reference's residual stream. -/
def rH (t : Fin cfg0.N) : FVec Ideal S128x3584 .bf16 :=
  k0_pay3 (F := Ideal) (iblk m c 0 t) (iblk m c 1 t) (iblk m c 7 t) (iblk m c 3 t)
/-- Its norm. -/
def rN (t : Fin cfg0.N) : FVec Ideal S128x3584 .bf16 :=
  k0_pay5 (F := Ideal) (iblk m c 0 t) (iblk m c 1 t) (iblk m c 7 t) (iblk m c 3 t) (iblk m c 2 t)
/-- The projection under the gate. -/
def rT (t : Fin cfg0.N) : FVec Ideal S128x14336 .f32 :=
  k0_pay6 (F := Ideal) (iblk m c 0 t) (iblk m c 1 t) (iblk m c 7 t) (iblk m c 3 t) (iblk m c 2 t) (iblk m c 8 t) (iblk m c 4 t)

theorem rH_at (t : Fin cfg0.N) (r : Fin 128) (j : Fin 3584) : rH m c t (ix2 r j) = pH m c r j := by
  unfold rH
  rw [pay3, blk0, blk3]
  simp only [blk1, blk7]
  rfl

/-- The residual stream once more, in the wider format. -/
def rF (t : Fin cfg0.N) : FVec Ideal S128x3584 .f32 :=
  k0_pay4 (F := Ideal) (iblk m c 0 t) (iblk m c 1 t) (iblk m c 7 t) (iblk m c 3 t)

theorem rF_at (t : Fin cfg0.N) (r : Fin 128) (j : Fin 3584) : rF m c t (ix2 r j) = pH m c r j :=
  (pay4 _ _ _ _ r j).trans (rH_at m c t r j)

theorem rN_at (t : Fin cfg0.N) (r : Fin 128) (j : Fin 3584) : rN m c t (ix2 r j) = pN m c r j := by
  have e := rH_at m c t
  unfold rH at e
  unfold rN
  rw [pay5, blk2]
  simp only [e]
  rfl

theorem rT_at (t : Fin cfg0.N) (r : Fin 128) (f : Fin 14336) :
    rT m c t (ix2 r f) = Layer.proj (pN m c) (pWg m c) (pSg m c) r f := by
  have e := rN_at m c t
  unfold rN at e
  unfold rT
  rw [pay6, blk4]
  simp only [e, blk8]
  rfl

theorem act_at (t : Fin cfg0.N) (r : Fin 128) (f : Fin 14336) :
    k0_pay1 (F := Ideal) (rN m c t) (rT m c t) (iblk m c 9 t) (iblk m c 5 t) (ix2 r f) = pAct m c r f := by
  rw [pay1, blk5, rT_at]
  simp only [rN_at, blk9]
  rfl

theorem out_at (t : Fin cfg0.N) (r : Fin 128) (j : Fin 3584) :
    k0_pay2 (F := Ideal) (rF m c t) (rN m c t) (rT m c t) (iblk m c 9 t) (iblk m c 5 t) (iblk m c 10 t) (iblk m c 6 t)
      (ix2 r j) = pOut m c r j := by
  rw [pay2, blk6, rF_at]
  simp only [act_at, blk10]
  rfl

theorem final12 : (dats m 0 c).arrAt 12 cfg0.N = fun j : S128x3584.Idx => pH m c (j 0) (j 1) := by
  refine (dats m 0 c).arrAt_eq_of_after_last 12 t0_0 (by decide +kernel) _ fun j => ?_
  blk_simp
  rw [after0_12]
  unfold_out out0_12
  frame_out
  exact (congrArg _ (eq_ix2 j)).trans (rH_at m c t0_0 (j 0) (j 1))

theorem final13 : (dats m 0 c).arrAt 13 cfg0.N = fun j : S128x14336.Idx => pAct m c (j 0) (j 1) := by
  refine (dats m 0 c).arrAt_eq_of_after_last 13 t0_0 (by decide +kernel) _ fun j => ?_
  blk_simp
  rw [after0_13]
  unfold_out out0_13
  frame_out
  exact (congrArg _ (eq_ix2 j)).trans (act_at m c t0_0 (j 0) (j 1))

theorem final11 : (dats m 0 c).arrAt 11 cfg0.N = fun j : S128x3584.Idx => pOut m c (j 0) (j 1) := by
  refine (dats m 0 c).arrAt_eq_of_after_last 11 t0_0 (by decide +kernel) _ fun j => ?_
  blk_simp
  rw [after0_11]
  unfold_out out0_11
  frame_out
  exact (congrArg _ (eq_ix2 j)).trans (out_at m c t0_0 (j 0) (j 1))

end Cert.ReferenceIdeal.Hand

end
-- ==== Proof.Equal.lean ====
/- Both programs compute the same functions of equal arguments. -/
module

public import proofs.«01_k».proof.Proof.KIValue
public import proofs.«01_k».proof.Proof.RIValue

@[expose] public section

noncomputable section

namespace Cert.Proof

open Idealize.ShloMosaic Idealize.SL.Sem

/-- The two memories hold the same arguments. -/
def SameArgs (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) : Prop :=
  ∀ c : Dev Cert.KernelIdeal.nD,
    m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ} (h : SameArgs m m') (c : Dev Cert.KernelIdeal.nD)

include h

/-- The residual stream, the activation and the result agree. -/
theorem plain_eq : Cert.ReferenceIdeal.Hand.pH m' c = Cert.KernelIdeal.Hand.pH m c ∧ Cert.ReferenceIdeal.Hand.pAct m' c = Cert.KernelIdeal.Hand.pAct m c
    ∧ Cert.ReferenceIdeal.Hand.pOut m' c = Cert.KernelIdeal.Hand.pOut m c := by
  obtain ⟨h0, h1, h2, h3, h4, h5, h6, h7, h8, h9, h10⟩ := h c
  have eX : Cert.ReferenceIdeal.Hand.pX m' c = Cert.KernelIdeal.Hand.pX m c := by
    funext r k; exact congrFun h0 _
  have eA : Cert.ReferenceIdeal.Hand.pA m' c = Cert.KernelIdeal.Hand.pA m c := by
    funext r k; exact congrFun h1 _
  have eG : Cert.ReferenceIdeal.Hand.pG m' c = Cert.KernelIdeal.Hand.pG m c := by
    funext k; exact congrFun h2 _
  have eSo : Cert.ReferenceIdeal.Hand.pSo m' c = Cert.KernelIdeal.Hand.pSo m c := by
    funext k; exact congrFun h3 _
  have eSg : Cert.ReferenceIdeal.Hand.pSg m' c = Cert.KernelIdeal.Hand.pSg m c := by
    funext k; exact congrFun h4 _
  have eSu : Cert.ReferenceIdeal.Hand.pSu m' c = Cert.KernelIdeal.Hand.pSu m c := by
    funext k; exact congrFun h5 _
  have eSd : Cert.ReferenceIdeal.Hand.pSd m' c = Cert.KernelIdeal.Hand.pSd m c := by
    funext k; exact congrFun h6 _
  have eWo : Cert.ReferenceIdeal.Hand.pWo m' c = Cert.KernelIdeal.Hand.pWo m c := by
    funext r k; exact congrFun h7 _
  have eWg : Cert.ReferenceIdeal.Hand.pWg m' c = Cert.KernelIdeal.Hand.pWg m c := by
    funext r k; exact congrFun h8 _
  have eWu : Cert.ReferenceIdeal.Hand.pWu m' c = Cert.KernelIdeal.Hand.pWu m c := by
    funext r k; exact congrFun h9 _
  have eWd : Cert.ReferenceIdeal.Hand.pWd m' c = Cert.KernelIdeal.Hand.pWd m c := by
    funext r k; exact congrFun h10 _
  have eH : Cert.ReferenceIdeal.Hand.pH m' c = Cert.KernelIdeal.Hand.pH m c := by
    unfold Cert.ReferenceIdeal.Hand.pH Cert.KernelIdeal.Hand.pH; rw [eX, eA, eWo, eSo]
  have eN : Cert.ReferenceIdeal.Hand.pN m' c = Cert.KernelIdeal.Hand.pN m c := by
    unfold Cert.ReferenceIdeal.Hand.pN Cert.KernelIdeal.Hand.pN; rw [eH, eG]
  have eAct : Cert.ReferenceIdeal.Hand.pAct m' c = Cert.KernelIdeal.Hand.pAct m c := by
    unfold Cert.ReferenceIdeal.Hand.pAct Cert.KernelIdeal.Hand.pAct; rw [eN, eWg, eSg, eWu, eSu]
  have eOut : Cert.ReferenceIdeal.Hand.pOut m' c = Cert.KernelIdeal.Hand.pOut m c := by
    unfold Cert.ReferenceIdeal.Hand.pOut Cert.KernelIdeal.Hand.pOut; rw [eH, eAct, eWd, eSd]
  exact ⟨eH, eAct, eOut⟩

theorem out_eq : Cert.KernelIdeal.Hand.outAll m c = (Cert.ReferenceIdeal.Gen.dats m' 0 c).arrAt 11 Cert.ReferenceIdeal.cfg0.N := by
  rw [Cert.ReferenceIdeal.Hand.final11, (plain_eq h c).2.2]
  exact funext fun j => (congrArg _ (eq_ix2 j)).trans (Cert.KernelIdeal.Hand.outAll_at m c (j 0) (j 1))

theorem hmid_eq : Cert.KernelIdeal.Hand.hAll m c = (Cert.ReferenceIdeal.Gen.dats m' 0 c).arrAt 12 Cert.ReferenceIdeal.cfg0.N := by
  rw [Cert.ReferenceIdeal.Hand.final12, (plain_eq h c).1]
  exact funext fun j => (congrArg _ (eq_ix2 j)).trans (Cert.KernelIdeal.Hand.hAll_at m c (j 0) (j 1))

theorem act_eq : Cert.KernelIdeal.Hand.actAll m c = (Cert.ReferenceIdeal.Gen.dats m' 0 c).arrAt 13 Cert.ReferenceIdeal.cfg0.N := by
  rw [Cert.ReferenceIdeal.Hand.final13, (plain_eq h c).2.1]
  exact funext fun j => (congrArg _ (eq_ix2 j)).trans (Cert.KernelIdeal.Hand.actAll_at m c (j 0) (j 1))

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KRun
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The layer's half after attention: kernel and reference end with equal results. -/
theorem algebraic : Cert.algebraic_KernelIdeal_ReferenceIdeal (hKernelIdeal := Cert.KernelIdeal.Gen.facts)
    (hReferenceIdeal := Cert.ReferenceIdeal.Gen.facts) := by
  intro m g m' g' _ h
  refine ⟨fun c => Cert.KernelIdeal.Hand.outAll m c, fun c => Cert.KernelIdeal.Hand.hAll m c,
    fun c => Cert.KernelIdeal.Hand.actAll m c, ?_, ?_⟩
  · refine (θ_run Cert.KernelIdeal.defs _ _).mono (fun r hr c => ?_) (Cert.KernelIdeal.Hand.run_rel m g)
    obtain ⟨h0, h1, h2⟩ := Cert.KernelIdeal.Hand.results_of m r hr.1 c
    exact ⟨h2, h0, h1, Cert.KernelIdeal.Hand.args_of m r hr.1 c⟩
  · refine (θ_run Cert.ReferenceIdeal.defs _ _).mono (fun r hr c => ?_) (Cert.ReferenceIdeal.Value.run_blocks m' g')
    obtain ⟨h0, h1, h2, ha⟩ := hr c
    exact ⟨h0.trans (out_eq h c).symm, h1.trans (hmid_eq h c).symm, h2.trans (act_eq h c).symm, ha⟩

theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ,
  fun m ρ _ => Cert.ReferenceIdeal.Gen.frame m ρ, trivial, algebraic⟩

end Cert.Proof

end
